-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_plain_wave [hPre_plain_wave : Cert.Pre_plain_wave.Facts] (m : (ℓ : Loc Cert.KernelIdeal.nD Cert.KernelIdeal.τ Cert.KernelIdeal.sig) → Buf (Elt Ideal) ℓ) : Prop :=
  ∀ c : Dev Cert.KernelIdeal.nD,
    (Cert.Pre_plain_wave.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_plain_wave.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_plain_wave.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_plain_wave [hPre_plain_wave : Cert.Pre_plain_wave.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_plain_wave.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_plain_wave.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_plain_wave.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_plain_wave [hKernelIdeal : Cert.KernelIdeal.Facts] [hPre_plain_wave : Cert.Pre_plain_wave.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_plain_wave m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_plain_wave [hReferenceIdeal : Cert.ReferenceIdeal.Facts] [hPre_plain_wave : Cert.Pre_plain_wave.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_plain_wave m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_plain_wave [hKernelIdeal : Cert.KernelIdeal.Facts] [hReferenceIdeal : Cert.ReferenceIdeal.Facts] [hPre_plain_wave : Cert.Pre_plain_wave.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_plain_wave m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v83)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v83) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v145) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_plain_wave : Cert.Pre_plain_wave.Facts),
    quiescent_Kernel (hKernel := hKernel)
    ∧ quiescent_KernelIdeal (hKernelIdeal := hKernelIdeal)
    ∧ quiescent_KernelIdeal_pre_plain_wave (hKernelIdeal := hKernelIdeal) (hPre_plain_wave := hPre_plain_wave)
    ∧ quiescent_ReferenceIdeal (hReferenceIdeal := hReferenceIdeal)
    ∧ quiescent_ReferenceIdeal_pre_plain_wave (hReferenceIdeal := hReferenceIdeal) (hPre_plain_wave := hPre_plain_wave)
    ∧ preserves_Kernel_KernelIdeal
    ∧ algebraic_KernelIdeal_ReferenceIdeal_pre_plain_wave (hKernelIdeal := hKernelIdeal) (hReferenceIdeal := hReferenceIdeal) (hPre_plain_wave := hPre_plain_wave)
-- ==== Pre_plain_wave.lean ====
abbrev S1x4096x768 : Shape := ⟨3, ![1, 4096, 768]⟩
abbrev S24x768 : Shape := ⟨2, ![24, 768]⟩
abbrev S24 : Shape := ⟨1, ![24]⟩
abbrev S768x768 : Shape := ⟨2, ![768, 768]⟩
abbrev S768 : Shape := ⟨1, ![768]⟩
abbrev S33 : Shape := ⟨1, ![33]⟩
abbrev S_ : Shape := ⟨0, ![]⟩
abbrev S768x24 : Shape := ⟨2, ![768, 24]⟩
abbrev S1x4096x24 : Shape := ⟨3, ![1, 4096, 24]⟩
abbrev S1x1x24 : Shape := ⟨3, ![1, 1, 24]⟩
abbrev S1x4096x2x12 : Shape := ⟨4, ![1, 4096, 2, 12]⟩
abbrev S1x4096x1x12 : Shape := ⟨4, ![1, 4096, 1, 12]⟩
abbrev S1x4096x12 : Shape := ⟨3, ![1, 4096, 12]⟩
abbrev S1x4096 : Shape := ⟨2, ![1, 4096]⟩
abbrev S4096 : Shape := ⟨1, ![4096]⟩
abbrev S1x1x33 : Shape := ⟨3, ![1, 1, 33]⟩
abbrev S1x4096x1 : Shape := ⟨3, ![1, 4096, 1]⟩
abbrev S1x4096x33 : Shape := ⟨3, ![1, 4096, 33]⟩
abbrev S1x1x768 : Shape := ⟨3, ![1, 1, 768]⟩
abbrev S1x4096x12x64 : Shape := ⟨4, ![1, 4096, 12, 64]⟩
abbrev S1x4096x1x33 : Shape := ⟨4, ![1, 4096, 1, 33]⟩
abbrev S1x4096x12x33 : Shape := ⟨4, ![1, 4096, 12, 33]⟩
abbrev S4096x12x33x1 : Shape := ⟨4, ![4096, 12, 33, 1]⟩
abbrev S1 : Shape := ⟨1, ![1]⟩
abbrev S1x1x1x1 : Shape := ⟨4, ![1, 1, 1, 1]⟩
abbrev S4096x12x33 : Shape := ⟨3, ![4096, 12, 33]⟩
abbrev S1x4096x12x1 : Shape := ⟨4, ![1, 4096, 12, 1]⟩

class Facts : Prop where
  bcast_S_S33 : S_.BroadcastsInDim S33 (![] : Fin 0 → Fin S33.rank)
  transposes_S24x768_S768x24_1_0 : S24x768.Transposes [1, 0] S768x24
  bcast_S24_S1x1x24_2 : S24.BroadcastsInDim S1x1x24 (![2] : Fin 1 → Fin S1x1x24.rank)
  bcast_S1x1x24_S1x4096x24_0_1_2 : S1x1x24.BroadcastsInDim S1x4096x24 (![0, 1, 2] : Fin 3 → Fin S1x4096x24.rank)
  bcast_S_S1x4096x24 : S_.BroadcastsInDim S1x4096x24 (![] : Fin 0 → Fin S1x4096x24.rank)
  shapeCasts_S1x4096x24_S1x4096x2x12 : S1x4096x24.ShapeCasts S1x4096x2x12
  slices_S1x4096x2x12_S1x4096x1x12_0_0_0_0 : S1x4096x2x12.Slices ![0, 0, 0, 0] S1x4096x1x12
  shapeCasts_S1x4096x1x12_S1x4096x12 : S1x4096x1x12.ShapeCasts S1x4096x12
  slices_S1x4096x2x12_S1x4096x1x12_0_0_1_0 : S1x4096x2x12.Slices ![0, 0, 1, 0] S1x4096x1x12
  bcast_S_S1x4096x12 : S_.BroadcastsInDim S1x4096x12 (![] : Fin 0 → Fin S1x4096x12.rank)
  reducesTo_S1x4096x12_S1x4096_d2 : S1x4096x12.ReducesTo [2] S1x4096
  h_S_ : 0 < S_.numel
  bcast_S_S1x4096 : S_.BroadcastsInDim S1x4096 (![] : Fin 0 → Fin S1x4096.rank)
  shapeCasts_S33_S1x1x33 : S33.ShapeCasts S1x1x33
  shapeCasts_S4096_S1x4096x1 : S4096.ShapeCasts S1x4096x1
  bcast_S1x4096_S1x4096x1_0_1 : S1x4096.BroadcastsInDim S1x4096x1 (![0, 1] : Fin 2 → Fin S1x4096x1.rank)
  bcast_S1x1x33_S1x4096x33_0_1_2 : S1x1x33.BroadcastsInDim S1x4096x33 (![0, 1, 2] : Fin 3 → Fin S1x4096x33.rank)
  bcast_S1x4096x1_S1x4096x33_0_1_2 : S1x4096x1.BroadcastsInDim S1x4096x33 (![0, 1, 2] : Fin 3 → Fin S1x4096x33.rank)
  bcast_S_S1x4096x33 : S_.BroadcastsInDim S1x4096x33 (![] : Fin 0 → Fin S1x4096x33.rank)
  transposes_S768x768_S768x768_1_0 : S768x768.Transposes [1, 0] S768x768
  bcast_S768_S1x1x768_2 : S768.BroadcastsInDim S1x1x768 (![2] : Fin 1 → Fin S1x1x768.rank)
  bcast_S1x1x768_S1x4096x768_0_1_2 : S1x1x768.BroadcastsInDim S1x4096x768 (![0, 1, 2] : Fin 3 → Fin S1x4096x768.rank)
  bcast_S_S1x4096x768 : S_.BroadcastsInDim S1x4096x768 (![] : Fin 0 → Fin S1x4096x768.rank)
  shapeCasts_S1x4096x768_S1x4096x12x64 : S1x4096x768.ShapeCasts S1x4096x12x64
  bcast_S1x4096x33_S1x4096x1x33_0_1_3 : S1x4096x33.BroadcastsInDim S1x4096x1x33 (![0, 1, 3] : Fin 3 → Fin S1x4096x1x33.rank)
  bcast_S_S1x4096x1x33 : S_.BroadcastsInDim S1x4096x1x33 (![] : Fin 0 → Fin S1x4096x1x33.rank)
  bcast_S1x4096x1x33_S1x4096x12x33_0_1_2_3 : S1x4096x1x33.BroadcastsInDim S1x4096x12x33 (![0, 1, 2, 3] : Fin 4 → Fin S1x4096x12x33.rank)
  bcast_S_S1x4096x12x33 : S_.BroadcastsInDim S1x4096x12x33 (![] : Fin 0 → Fin S1x4096x12x33.rank)
  shapeCasts_S1x4096x12x33_S4096x12x33x1 : S1x4096x12x33.ShapeCasts S4096x12x33x1
  bcast_S_S4096x12x33x1 : S_.BroadcastsInDim S4096x12x33x1 (![] : Fin 0 → Fin S4096x12x33x1.rank)
  bcast_S1_S1x1x1x1_3 : S1.BroadcastsInDim S1x1x1x1 (![3] : Fin 1 → Fin S1x1x1x1.rank)
  bcast_S1x1x1x1_S4096x12x33x1_0_1_2_3 : S1x1x1x1.BroadcastsInDim S4096x12x33x1 (![0, 1, 2, 3] : Fin 4 → Fin S4096x12x33x1.rank)
  reducesTo_S4096x12x33x1_S4096x12x33_d3 : S4096x12x33x1.ReducesTo [3] S4096x12x33
  bcast_S4096x12x33_S1x4096x12x33_1_2_3 : S4096x12x33.BroadcastsInDim S1x4096x12x33 (![1, 2, 3] : Fin 3 → Fin S1x4096x12x33.rank)
  reducesTo_S1x4096x12x33_S1x4096x12_d3 : S1x4096x12x33.ReducesTo [3] S1x4096x12
  bcast_S1x4096x12_S1x4096x12x1_0_1_2 : S1x4096x12.BroadcastsInDim S1x4096x12x1 (![0, 1, 2] : Fin 3 → Fin S1x4096x12x1.rank)
  bcast_S_S1x4096x12x1 : S_.BroadcastsInDim S1x4096x12x1 (![] : Fin 0 → Fin S1x4096x12x1.rank)
  bcast_S_S24x768 : S_.BroadcastsInDim S24x768 (![] : Fin 0 → Fin S24x768.rank)
  bcast_S_S24 : S_.BroadcastsInDim S24 (![] : Fin 0 → Fin S24.rank)
  bcast_S1x4096x12x1_S1x4096x12x33_0_1_2_3 : S1x4096x12x1.BroadcastsInDim S1x4096x12x33 (![0, 1, 2, 3] : Fin 4 → Fin S1x4096x12x33.rank)
  dot_S1x4096x768_S768x24_S1x4096x24_2_0_01_1_n_n_wf : DotDims.WF S1x4096x768 S768x24 S1x4096x24 [2] [0] [0, 1] [1] [] []
  dot_S1x4096x768_S768x768_S1x4096x768_2_0_01_1_n_n_wf : DotDims.WF S1x4096x768 S768x768 S1x4096x768 [2] [0] [0, 1] [1] [] []
  gather_S1x4096x12x64_S4096x12x33x1_S1x4096x12x33_0_3_12_01_3_3_1111_wf : GatherDims.WF S1x4096x12x64 S4096x12x33x1 S1x4096x12x33 [0] [3] [1, 2] [3] [0, 1] 3 ![1, 1, 1, 1]

variable [Facts]

def dot_S1x4096x768_S768x24_S1x4096x24_2_0_01_1_n_n : DotDims S1x4096x768 S768x24 S1x4096x24 where
  lhsContracting := [2]
  rhsContracting := [0]
  lhsNonContracting := [0, 1]
  rhsNonContracting := [1]
  lhsBatch := []
  rhsBatch := []
  wf := dot_S1x4096x768_S768x24_S1x4096x24_2_0_01_1_n_n_wf
def dot_S1x4096x768_S768x768_S1x4096x768_2_0_01_1_n_n : DotDims S1x4096x768 S768x768 S1x4096x768 where
  lhsContracting := [2]
  rhsContracting := [0]
  lhsNonContracting := [0, 1]
  rhsNonContracting := [1]
  lhsBatch := []
  rhsBatch := []
  wf := dot_S1x4096x768_S768x768_S1x4096x768_2_0_01_1_n_n_wf
def gather_S1x4096x12x64_S4096x12x33x1_S1x4096x12x33_0_3_12_01_3_3_1111 : GatherDims S1x4096x12x64 S4096x12x33x1 S1x4096x12x33 where
  offsetDims := [0]
  collapsedSliceDims := [3]
  operandBatchingDims := [1, 2]
  startIndicesBatchingDims := [0, 1]
  startIndexMap := [3]
  indexVectorDim := 3
  sliceSizes := ![1, 1, 1, 1]
  wf := gather_S1x4096x12x64_S4096x12x33x1_S1x4096x12x33_0_3_12_01_3_3_1111_wf
def fn_clip {F : FTy → Type} [FloatOps F] (arg0 : IVec S1x4096x33 32) (arg1 : IVec S_ 32) (arg2 : IVec S_ 32) : IVec S1x4096x33 32 :=
  let v0 : IVec S_ 32 := id arg1
  let v1 : IVec S1x4096x33 32 := broadcastInDim S1x4096x33 ![] bcast_S_S1x4096x33 v0
  let v2 : IVec S1x4096x33 32 := maxsi v1 arg0
  let v3 : IVec S_ 32 := id arg2
  let v4 : IVec S1x4096x33 32 := broadcastInDim S1x4096x33 ![] bcast_S_S1x4096x33 v3
  let v5 : IVec S1x4096x33 32 := minsi v4 v2
  v5

def fn_clip_0 {F : FTy → Type} [FloatOps F] (arg0 : FVec F S1x4096x33 .f32) (arg1 : FVec F S_ .f32) (arg2 : FVec F S_ .f32) : FVec F S1x4096x33 .f32 :=
  let v0 : FVec F S_ .f32 := id arg1
  let v1 : FVec F S1x4096x33 .f32 := broadcastInDim S1x4096x33 ![] bcast_S_S1x4096x33 v0
  let v2 : FVec F S1x4096x33 .f32 := maximumf v1 arg0
  let v3 : FVec F S_ .f32 := id arg2
  let v4 : FVec F S1x4096x33 .f32 := broadcastInDim S1x4096x33 ![] bcast_S_S1x4096x33 v3
  let v5 : FVec F S1x4096x33 .f32 := minimumf v4 v2
  v5

def fn_take_along_axis {F : FTy → Type} [FloatOps F] (arg0 : FVec F S1x4096x12x64 .f32) (arg1 : IVec S1x4096x12x33 32) : FVec F S1x4096x12x33 .f32 :=
  let c : IVec S_ 32 := constantI S_ 32 0#32
  let v0 : IVec S1x4096x12x33 32 := broadcastInDim S1x4096x12x33 ![] bcast_S_S1x4096x12x33 c
  let v1 : IVec S1x4096x12x33 1 := cmpi .slt arg1 v0
  let c_0 : IVec S_ 32 := constantI S_ 32 64#32
  let v2 : IVec S1x4096x12x33 32 := broadcastInDim S1x4096x12x33 ![] bcast_S_S1x4096x12x33 c_0
  let v3 : IVec S1x4096x12x33 32 := addi arg1 v2
  let v4 : IVec S1x4096x12x33 32 := select v1 v3 arg1
  let v5 : IVec S4096x12x33x1 32 := shapeCast S4096x12x33x1 v4 shapeCasts_S1x4096x12x33_S4096x12x33x1
  let c_1 : IVec S1 32 := constantI S1 32 63#32
  let c_2 : IVec S_ 32 := constantI S_ 32 0#32
  let v6 : IVec S4096x12x33x1 32 := broadcastInDim S4096x12x33x1 ![] bcast_S_S4096x12x33x1 c_2
  let v7 : IVec S4096x12x33x1 1 := cmpi .sge v5 v6
  let v8 : IVec S1x1x1x1 32 := broadcastInDim S1x1x1x1 ![3] bcast_S1_S1x1x1x1_3 c_1
  let v9 : IVec S4096x12x33x1 32 := broadcastInDim S4096x12x33x1 ![0, 1, 2, 3] bcast_S1x1x1x1_S4096x12x33x1_0_1_2_3 v8
  let v10 : IVec S4096x12x33x1 1 := cmpi .sle v5 v9
  let v11 : IVec S4096x12x33x1 1 := andi v7 v10
  let c_3 : IVec S_ 1 := constantI S_ 1 1#1
  let v12 : IVec S4096x12x33 1 := (fun x v => Host.reduce IntOp.andi x v reducesTo_S4096x12x33x1_S4096x12x33_d3 h_S_) v11 c_3
  let v13 : FVec F S1x4096x12x33 .f32 := (fun x i => Host.gather gather_S1x4096x12x64_S4096x12x33x1_S1x4096x12x33_0_3_12_01_3_3_1111 x i) arg0 v5
  let v14 : IVec S1x4096x12x33 1 := broadcastInDim S1x4096x12x33 ![1, 2, 3] bcast_S4096x12x33_S1x4096x12x33_1_2_3 v12
  let cst : FVec F S_ .f32 := constant S_ .f32 0x7FC00000#32
  let v15 : FVec F S1x4096x12x33 .f32 := broadcastInDim S1x4096x12x33 ![] bcast_S_S1x4096x12x33 cst
  let v16 : FVec F S1x4096x12x33 .f32 := select v14 v13 v15
  v16

def fn_part6 {F : FTy → Type} [FloatOps F] (main_arg1 : FVec F S24x768 .f32) (main_arg2 : FVec F S24 .f32) (main_v55 : IVec S1x4096x33 1) (main_v112 : FVec F S1x4096x12x1 .f32) (main_v113 : FVec F S24x768 .f32) : IVec S24x768 1 × IVec S24 1 × IVec S1x4096x12x33 1 :=
  let main_v114 : IVec S24x768 1 := cmpf .oeq main_arg1 main_v113
  let main_cst_28 : FVec F S_ .f32 := constant S_ .f32 0x00000000#32
  let main_v115 : FVec F S24 .f32 := broadcastInDim S24 ![] bcast_S_S24 main_cst_28
  let main_v116 : IVec S24 1 := cmpf .oeq main_arg2 main_v115
  let main_v117 : IVec S1x4096x1x33 1 := broadcastInDim S1x4096x1x33 ![0, 1, 3] bcast_S1x4096x33_S1x4096x1x33_0_1_3 main_v55
  let main_cst_29 : FVec F S_ .f32 := constant S_ .f32 0x00000000#32
  let main_v118 : FVec F S1x4096x12x1 .f32 := broadcastInDim S1x4096x12x1 ![] bcast_S_S1x4096x12x1 main_cst_29
  let main_v119 : IVec S1x4096x12x1 1 := cmpf .une main_v112 main_v118
  let main_v120 : IVec S1x4096x12x33 1 := broadcastInDim S1x4096x12x33 ![0, 1, 2, 3] bcast_S1x4096x1x33_S1x4096x12x33_0_1_2_3 main_v117
  let main_v121 : IVec S1x4096x12x33 1 := broadcastInDim S1x4096x12x33 ![0, 1, 2, 3] bcast_S1x4096x12x1_S1x4096x12x33_0_1_2_3 main_v119
  let main_v122 : IVec S1x4096x12x33 1 := ori main_v120 main_v121
  (main_v114, main_v116, main_v122)

def fn_part5 {F : FTy → Type} [FloatOps F] (main_arg1 : FVec F S24x768 .f32) (main_arg2 : FVec F S24 .f32) (main_v55 : IVec S1x4096x33 1) (main_v77 : FVec F S1x4096x12x64 .f32) (main_v86 : IVec S1x4096x33 32) (main_v88 : IVec S1x4096x33 32) (main_v91 : FVec F S1x4096x1x33 .f32) (main_v92 : FVec F S1x4096x1x33 .f32) : IVec S24x768 1 × IVec S24 1 × IVec S1x4096x12x33 1 :=
  let main_v93 : FVec F S1x4096x1x33 .f32 := subf main_v92 main_v91
  let main_v94 : IVec S1x4096x1x33 32 := broadcastInDim S1x4096x1x33 ![0, 1, 3] bcast_S1x4096x33_S1x4096x1x33_0_1_3 main_v86
  let main_v95 : IVec S1x4096x12x33 32 := broadcastInDim S1x4096x12x33 ![0, 1, 2, 3] bcast_S1x4096x1x33_S1x4096x12x33_0_1_2_3 main_v94
  let main_v96 : IVec S1x4096x1x33 32 := broadcastInDim S1x4096x1x33 ![0, 1, 3] bcast_S1x4096x33_S1x4096x1x33_0_1_3 main_v88
  let main_v97 : IVec S1x4096x12x33 32 := broadcastInDim S1x4096x12x33 ![0, 1, 2, 3] bcast_S1x4096x1x33_S1x4096x12x33_0_1_2_3 main_v96
  let main_v98 : FVec F S1x4096x12x33 .f32 := fn_take_along_axis (F := F) main_v77 main_v95
  let main_v99 : FVec F S1x4096x12x33 .f32 := fn_take_along_axis (F := F) main_v77 main_v97
  let main_v100 : FVec F S1x4096x12x33 .f32 := broadcastInDim S1x4096x12x33 ![0, 1, 2, 3] bcast_S1x4096x1x33_S1x4096x12x33_0_1_2_3 main_v93
  let main_v101 : FVec F S1x4096x12x33 .f32 := mulf main_v98 main_v100
  let main_v102 : FVec F S1x4096x12x33 .f32 := broadcastInDim S1x4096x12x33 ![0, 1, 2, 3] bcast_S1x4096x1x33_S1x4096x12x33_0_1_2_3 main_v91
  let main_v103 : FVec F S1x4096x12x33 .f32 := mulf main_v99 main_v102
  let main_v104 : FVec F S1x4096x12x33 .f32 := addf main_v101 main_v103
  let main_v105 : IVec S1x4096x1x33 1 := broadcastInDim S1x4096x1x33 ![0, 1, 3] bcast_S1x4096x33_S1x4096x1x33_0_1_3 main_v55
  let main_v106 : IVec S1x4096x12x33 1 := broadcastInDim S1x4096x12x33 ![0, 1, 2, 3] bcast_S1x4096x1x33_S1x4096x12x33_0_1_2_3 main_v105
  let main_v107 : FVec F S1x4096x12x33 .f32 := uitofp .f32 main_v106
  let main_v108 : FVec F S1x4096x12x33 .f32 := mulf main_v104 main_v107
  let main_cst_25 : FVec F S_ .f32 := constant S_ .f32 0x00000000#32
  let main_v109 : FVec F S1x4096x12 .f32 := (fun x v => Host.reduceAdd x v reducesTo_S1x4096x12x33_S1x4096x12_d3 h_S_) main_v108 main_cst_25
  let main_v110 : FVec F S1x4096x12x1 .f32 := broadcastInDim S1x4096x12x1 ![0, 1, 2] bcast_S1x4096x12_S1x4096x12x1_0_1_2 main_v109
  let main_cst_26 : FVec F S_ .f32 := constant S_ .f32 0x322BCC77#32
  let main_v111 : FVec F S1x4096x12x1 .f32 := broadcastInDim S1x4096x12x1 ![] bcast_S_S1x4096x12x1 main_cst_26
  let main_v112 : FVec F S1x4096x12x1 .f32 := addf main_v110 main_v111
  let main_cst_27 : FVec F S_ .f32 := constant S_ .f32 0x00000000#32
  let main_v113 : FVec F S24x768 .f32 := broadcastInDim S24x768 ![] bcast_S_S24x768 main_cst_27
  fn_part6 (F := F) main_arg1 main_arg2 main_v55 main_v112 main_v113

def fn_part4 {F : FTy → Type} [FloatOps F] (main_arg1 : FVec F S24x768 .f32) (main_arg2 : FVec F S24 .f32) (main_v55 : IVec S1x4096x33 1) (main_v64 : FVec F S1x4096x33 .f32) (main_v77 : FVec F S1x4096x12x64 .f32) : IVec S24x768 1 × IVec S24 1 × IVec S1x4096x12x33 1 :=
  let main_cst_16 : FVec F S_ .f32 := constant S_ .f32 0x43800000#32
  let main_v78 : FVec F S1x4096x33 .f32 := broadcastInDim S1x4096x33 ![] bcast_S_S1x4096x33 main_cst_16
  let main_v79 : FVec F S1x4096x33 .f32 := addf main_v64 main_v78
  let main_cst_17 : FVec F S_ .f32 := constant S_ .f32 0x44000000#32
  let main_v80 : FVec F S1x4096x33 .f32 := broadcastInDim S1x4096x33 ![] bcast_S_S1x4096x33 main_cst_17
  let main_v81 : FVec F S1x4096x33 .f32 := Host.divf main_v79 main_v80
  let main_cst_18 : FVec F S_ .f32 := constant S_ .f32 0x00000000#32
  let main_cst_19 : FVec F S_ .f32 := constant S_ .f32 0x3F800000#32
  let main_v82 : FVec F S1x4096x33 .f32 := fn_clip_0 (F := F) main_v81 main_cst_18 main_cst_19
  let main_cst_20 : FVec F S_ .f32 := constant S_ .f32 0x427C0000#32
  let main_v83 : FVec F S1x4096x33 .f32 := broadcastInDim S1x4096x33 ![] bcast_S_S1x4096x33 main_cst_20
  let main_v84 : FVec F S1x4096x33 .f32 := mulf main_v82 main_v83
  let main_v85 : IVec S1x4096x33 32 := fptosi 32 main_v84
  let main_c_21 : IVec S_ 32 := constantI S_ 32 0#32
  let main_c_22 : IVec S_ 32 := constantI S_ 32 62#32
  let main_v86 : IVec S1x4096x33 32 := fn_clip (F := F) main_v85 main_c_21 main_c_22
  let main_c_23 : IVec S_ 32 := constantI S_ 32 1#32
  let main_v87 : IVec S1x4096x33 32 := broadcastInDim S1x4096x33 ![] bcast_S_S1x4096x33 main_c_23
  let main_v88 : IVec S1x4096x33 32 := addi main_v86 main_v87
  let main_v89 : FVec F S1x4096x33 .f32 := sitofp .f32 main_v86
  let main_v90 : FVec F S1x4096x33 .f32 := subf main_v84 main_v89
  let main_v91 : FVec F S1x4096x1x33 .f32 := broadcastInDim S1x4096x1x33 ![0, 1, 3] bcast_S1x4096x33_S1x4096x1x33_0_1_3 main_v90
  let main_cst_24 : FVec F S_ .f32 := constant S_ .f32 0x3F800000#32
  let main_v92 : FVec F S1x4096x1x33 .f32 := broadcastInDim S1x4096x1x33 ![] bcast_S_S1x4096x1x33 main_cst_24
  fn_part5 (F := F) main_arg1 main_arg2 main_v55 main_v77 main_v86 main_v88 main_v91 main_v92

def fn_part3 {F : FTy → Type} [FloatOps F] (main_arg0 : FVec F S1x4096x768 .f32) (main_arg1 : FVec F S24x768 .f32) (main_arg2 : FVec F S24 .f32) (main_arg3 : FVec F S768x768 .f32) (main_arg4 : FVec F S768 .f32) (main_v35 : FVec F S1x4096 .f32) (main_v38 : FVec F S1x4096 .f32) (main_v40 : FVec F S1x1x33 .f32) (main_v55 : IVec S1x4096x33 1) (main_v56 : IVec S1x4096x33 32) (main_c : IVec S_ 32) : IVec S24x768 1 × IVec S24 1 × IVec S1x4096x12x33 1 :=
  let main_c_13 : IVec S_ 32 := constantI S_ 32 4095#32
  let main_v57 : IVec S1x4096x33 32 := fn_clip (F := F) main_v56 main_c main_c_13
  let main_v58 : FVec F S1x4096x1 .f32 := broadcastInDim S1x4096x1 ![0, 1] bcast_S1x4096_S1x4096x1_0_1 main_v35
  let main_v59 : FVec F S1x4096x33 .f32 := broadcastInDim S1x4096x33 ![0, 1, 2] bcast_S1x1x33_S1x4096x33_0_1_2 main_v40
  let main_v60 : FVec F S1x4096x33 .f32 := broadcastInDim S1x4096x33 ![0, 1, 2] bcast_S1x4096x1_S1x4096x33_0_1_2 main_v58
  let main_v61 : FVec F S1x4096x33 .f32 := mulf main_v59 main_v60
  let main_v62 : FVec F S1x4096x1 .f32 := broadcastInDim S1x4096x1 ![0, 1] bcast_S1x4096_S1x4096x1_0_1 main_v38
  let main_v63 : FVec F S1x4096x33 .f32 := broadcastInDim S1x4096x33 ![0, 1, 2] bcast_S1x4096x1_S1x4096x33_0_1_2 main_v62
  let main_v64 : FVec F S1x4096x33 .f32 := addf main_v61 main_v63
  let main_v65 : FVec F S768x768 .f32 := (transpose S768x768 [1, 0] · transposes_S768x768_S768x768_1_0) main_arg3
  let main_v66 : FVec F S1x4096x768 .f32 := (fun l r => Host.dotGeneral dot_S1x4096x768_S768x768_S1x4096x768_2_0_01_1_n_n none l r) main_arg0 main_v65
  let main_v67 : FVec F S1x1x768 .f32 := broadcastInDim S1x1x768 ![2] bcast_S768_S1x1x768_2 main_arg4
  let main_v68 : FVec F S1x4096x768 .f32 := broadcastInDim S1x4096x768 ![0, 1, 2] bcast_S1x1x768_S1x4096x768_0_1_2 main_v67
  let main_v69 : FVec F S1x4096x768 .f32 := addf main_v66 main_v68
  let main_v70 : FVec F S1x4096x768 .f32 := Host.negf main_v69
  let main_v71 : FVec F S1x4096x768 .f32 := Host.exp main_v70
  let main_cst_14 : FVec F S_ .f32 := constant S_ .f32 0x3F800000#32
  let main_v72 : FVec F S1x4096x768 .f32 := broadcastInDim S1x4096x768 ![] bcast_S_S1x4096x768 main_cst_14
  let main_v73 : FVec F S1x4096x768 .f32 := addf main_v72 main_v71
  let main_cst_15 : FVec F S_ .f32 := constant S_ .f32 0x3F800000#32
  let main_v74 : FVec F S1x4096x768 .f32 := broadcastInDim S1x4096x768 ![] bcast_S_S1x4096x768 main_cst_15
  let main_v75 : FVec F S1x4096x768 .f32 := Host.divf main_v74 main_v73
  let main_v76 : FVec F S1x4096x768 .f32 := mulf main_v69 main_v75
  let main_v77 : FVec F S1x4096x12x64 .f32 := shapeCast S1x4096x12x64 main_v76 shapeCasts_S1x4096x768_S1x4096x12x64
  fn_part4 (F := F) main_arg1 main_arg2 main_v55 main_v64 main_v77

def fn_part2 {F : FTy → Type} [FloatOps F] (main_arg0 : FVec F S1x4096x768 .f32) (main_arg1 : FVec F S24x768 .f32) (main_arg2 : FVec F S24 .f32) (main_arg3 : FVec F S768x768 .f32) (main_arg4 : FVec F S768 .f32) (main_v2 : FVec F S33 .f32) (main_v35 : FVec F S1x4096 .f32) (main_v36 : FVec F S1x4096 .f32) : IVec S24x768 1 × IVec S24 1 × IVec S1x4096x12x33 1 :=
  let main_cst_10 : FVec F S_ .f32 := constant S_ .f32 0x41400000#32
  let main_v37 : FVec F S1x4096 .f32 := broadcastInDim S1x4096 ![] bcast_S_S1x4096 main_cst_10
  let main_v38 : FVec F S1x4096 .f32 := Host.divf main_v36 main_v37
  let main_v39 : FVec F S4096 .f32 := sitofp .f32 (iotaInDim S4096 32 0)
  let main_v40 : FVec F S1x1x33 .f32 := shapeCast S1x1x33 main_v2 shapeCasts_S33_S1x1x33
  let main_v41 : FVec F S1x4096x1 .f32 := shapeCast S1x4096x1 main_v39 shapeCasts_S4096_S1x4096x1
  let main_v42 : FVec F S1x4096x1 .f32 := broadcastInDim S1x4096x1 ![0, 1] bcast_S1x4096_S1x4096x1_0_1 main_v35
  let main_v43 : FVec F S1x4096x33 .f32 := broadcastInDim S1x4096x33 ![0, 1, 2] bcast_S1x1x33_S1x4096x33_0_1_2 main_v40
  let main_v44 : FVec F S1x4096x33 .f32 := broadcastInDim S1x4096x33 ![0, 1, 2] bcast_S1x4096x1_S1x4096x33_0_1_2 main_v42
  let main_v45 : FVec F S1x4096x33 .f32 := mulf main_v43 main_v44
  let main_v46 : FVec F S1x4096x33 .f32 := broadcastInDim S1x4096x33 ![0, 1, 2] bcast_S1x4096x1_S1x4096x33_0_1_2 main_v41
  let main_v47 : FVec F S1x4096x33 .f32 := addf main_v46 main_v45
  let main_v48 : FVec F S1x4096x1 .f32 := broadcastInDim S1x4096x1 ![0, 1] bcast_S1x4096_S1x4096x1_0_1 main_v38
  let main_v49 : FVec F S1x4096x33 .f32 := broadcastInDim S1x4096x33 ![0, 1, 2] bcast_S1x4096x1_S1x4096x33_0_1_2 main_v48
  let main_v50 : FVec F S1x4096x33 .f32 := addf main_v47 main_v49
  let main_cst_11 : FVec F S_ .f32 := constant S_ .f32 0x00000000#32
  let main_v51 : FVec F S1x4096x33 .f32 := broadcastInDim S1x4096x33 ![] bcast_S_S1x4096x33 main_cst_11
  let main_v52 : IVec S1x4096x33 1 := cmpf .oge main_v50 main_v51
  let main_cst_12 : FVec F S_ .f32 := constant S_ .f32 0x45800000#32
  let main_v53 : FVec F S1x4096x33 .f32 := broadcastInDim S1x4096x33 ![] bcast_S_S1x4096x33 main_cst_12
  let main_v54 : IVec S1x4096x33 1 := cmpf .olt main_v50 main_v53
  let main_v55 : IVec S1x4096x33 1 := andi main_v52 main_v54
  let main_v56 : IVec S1x4096x33 32 := fptosi 32 main_v50
  let main_c : IVec S_ 32 := constantI S_ 32 0#32
  fn_part3 (F := F) main_arg0 main_arg1 main_arg2 main_arg3 main_arg4 main_v35 main_v38 main_v40 main_v55 main_v56 main_c

def fn_part1 {F : FTy → Type} [FloatOps F] (main_arg0 : FVec F S1x4096x768 .f32) (main_arg1 : FVec F S24x768 .f32) (main_arg2 : FVec F S24 .f32) (main_arg3 : FVec F S768x768 .f32) (main_arg4 : FVec F S768 .f32) (main_v2 : FVec F S33 .f32) (main_v19 : FVec F S1x4096x12 .f32) (main_v20 : FVec F S1x4096x12 .f32) : IVec S24x768 1 × IVec S24 1 × IVec S1x4096x12x33 1 :=
  let main_v21 : FVec F S1x4096x12 .f32 := Host.exp main_v20
  let main_cst_2 : FVec F S_ .f32 := constant S_ .f32 0x3F800000#32
  let main_v22 : FVec F S1x4096x12 .f32 := broadcastInDim S1x4096x12 ![] bcast_S_S1x4096x12 main_cst_2
  let main_v23 : FVec F S1x4096x12 .f32 := addf main_v22 main_v21
  let main_cst_3 : FVec F S_ .f32 := constant S_ .f32 0x3F800000#32
  let main_v24 : FVec F S1x4096x12 .f32 := broadcastInDim S1x4096x12 ![] bcast_S_S1x4096x12 main_cst_3
  let main_v25 : FVec F S1x4096x12 .f32 := Host.divf main_v24 main_v23
  let main_cst_4 : FVec F S_ .f32 := constant S_ .f32 0x41700000#32
  let main_v26 : FVec F S1x4096x12 .f32 := broadcastInDim S1x4096x12 ![] bcast_S_S1x4096x12 main_cst_4
  let main_v27 : FVec F S1x4096x12 .f32 := mulf main_v25 main_v26
  let main_cst_5 : FVec F S_ .f32 := constant S_ .f32 0x3F800000#32
  let main_v28 : FVec F S1x4096x12 .f32 := broadcastInDim S1x4096x12 ![] bcast_S_S1x4096x12 main_cst_5
  let main_v29 : FVec F S1x4096x12 .f32 := addf main_v27 main_v28
  let main_v30 : FVec F S1x4096x12 .f32 := Host.tanh main_v19
  let main_cst_6 : FVec F S_ .f32 := constant S_ .f32 0x41800000#32
  let main_v31 : FVec F S1x4096x12 .f32 := broadcastInDim S1x4096x12 ![] bcast_S_S1x4096x12 main_cst_6
  let main_v32 : FVec F S1x4096x12 .f32 := mulf main_v30 main_v31
  let main_cst_7 : FVec F S_ .f32 := constant S_ .f32 0x00000000#32
  let main_v33 : FVec F S1x4096 .f32 := (fun x v => Host.reduceAdd x v reducesTo_S1x4096x12_S1x4096_d2 h_S_) main_v29 main_cst_7
  let main_cst_8 : FVec F S_ .f32 := constant S_ .f32 0x41400000#32
  let main_v34 : FVec F S1x4096 .f32 := broadcastInDim S1x4096 ![] bcast_S_S1x4096 main_cst_8
  let main_v35 : FVec F S1x4096 .f32 := Host.divf main_v33 main_v34
  let main_cst_9 : FVec F S_ .f32 := constant S_ .f32 0x00000000#32
  let main_v36 : FVec F S1x4096 .f32 := (fun x v => Host.reduceAdd x v reducesTo_S1x4096x12_S1x4096_d2 h_S_) main_v32 main_cst_9
  fn_part2 (F := F) main_arg0 main_arg1 main_arg2 main_arg3 main_arg4 main_v2 main_v35 main_v36

def fn {F : FTy → Type} [FloatOps F] (main_arg0 : FVec F S1x4096x768 .f32) (main_arg1 : FVec F S24x768 .f32) (main_arg2 : FVec F S24 .f32) (main_arg3 : FVec F S768x768 .f32) (main_arg4 : FVec F S768 .f32) (main_arg5 : FVec F S768x768 .f32) : IVec S24x768 1 × IVec S24 1 × IVec S1x4096x12x33 1 :=
  let main_v0 : FVec F S33 .f32 := sitofp .f32 (iotaInDim S33 32 0)
  let main_cst : FVec F S_ .f32 := constant S_ .f32 0xC1800000#32
  let main_v1 : FVec F S33 .f32 := broadcastInDim S33 ![] bcast_S_S33 main_cst
  let main_v2 : FVec F S33 .f32 := addf main_v1 main_v0
  let main_v3 : FVec F S768x24 .f32 := (transpose S768x24 [1, 0] · transposes_S24x768_S768x24_1_0) main_arg1
  let main_v4 : FVec F S1x4096x24 .f32 := (fun l r => Host.dotGeneral dot_S1x4096x768_S768x24_S1x4096x24_2_0_01_1_n_n none l r) main_arg0 main_v3
  let main_v5 : FVec F S1x1x24 .f32 := broadcastInDim S1x1x24 ![2] bcast_S24_S1x1x24_2 main_arg2
  let main_v6 : FVec F S1x4096x24 .f32 := broadcastInDim S1x4096x24 ![0, 1, 2] bcast_S1x1x24_S1x4096x24_0_1_2 main_v5
  let main_v7 : FVec F S1x4096x24 .f32 := addf main_v4 main_v6
  let main_v8 : FVec F S1x4096x24 .f32 := Host.negf main_v7
  let main_v9 : FVec F S1x4096x24 .f32 := Host.exp main_v8
  let main_cst_0 : FVec F S_ .f32 := constant S_ .f32 0x3F800000#32
  let main_v10 : FVec F S1x4096x24 .f32 := broadcastInDim S1x4096x24 ![] bcast_S_S1x4096x24 main_cst_0
  let main_v11 : FVec F S1x4096x24 .f32 := addf main_v10 main_v9
  let main_cst_1 : FVec F S_ .f32 := constant S_ .f32 0x3F800000#32
  let main_v12 : FVec F S1x4096x24 .f32 := broadcastInDim S1x4096x24 ![] bcast_S_S1x4096x24 main_cst_1
  let main_v13 : FVec F S1x4096x24 .f32 := Host.divf main_v12 main_v11
  let main_v14 : FVec F S1x4096x24 .f32 := mulf main_v7 main_v13
  let main_v15 : FVec F S1x4096x2x12 .f32 := shapeCast S1x4096x2x12 main_v14 shapeCasts_S1x4096x24_S1x4096x2x12
  let main_v16 : FVec F S1x4096x1x12 .f32 := (extractStridedSlice S1x4096x1x12 ![0, 0, 0, 0] · slices_S1x4096x2x12_S1x4096x1x12_0_0_0_0) main_v15
  let main_v17 : FVec F S1x4096x12 .f32 := shapeCast S1x4096x12 main_v16 shapeCasts_S1x4096x1x12_S1x4096x12
  let main_v18 : FVec F S1x4096x1x12 .f32 := (extractStridedSlice S1x4096x1x12 ![0, 0, 1, 0] · slices_S1x4096x2x12_S1x4096x1x12_0_0_1_0) main_v15
  let main_v19 : FVec F S1x4096x12 .f32 := shapeCast S1x4096x12 main_v18 shapeCasts_S1x4096x1x12_S1x4096x12
  let main_v20 : FVec F S1x4096x12 .f32 := Host.negf main_v17
  fn_part1 (F := F) main_arg0 main_arg1 main_arg2 main_arg3 main_arg4 main_v2 main_v19 main_v20
-- ==== Kernel.lean ====
abbrev S1x4096x768 : Shape := ⟨3, ![1, 4096, 768]⟩
abbrev S24x768 : Shape := ⟨2, ![24, 768]⟩
abbrev S24 : Shape := ⟨1, ![24]⟩
abbrev S768x768 : Shape := ⟨2, ![768, 768]⟩
abbrev S768 : Shape := ⟨1, ![768]⟩
abbrev S64x33 : Shape := ⟨2, ![64, 33]⟩
abbrev S1x1x1x33 : Shape := ⟨4, ![1, 1, 1, 33]⟩
abbrev S1x2048x1x33 : Shape := ⟨4, ![1, 2048, 1, 33]⟩
abbrev S1x2048x768 : Shape := ⟨3, ![1, 2048, 768]⟩
abbrev S1x1x768 : Shape := ⟨3, ![1, 1, 768]⟩
abbrev S_ : Shape := ⟨0, ![]⟩
abbrev S1x2048x12x64 : Shape := ⟨4, ![1, 2048, 12, 64]⟩
abbrev S1x2048x12x64x1 : Shape := ⟨5, ![1, 2048, 12, 64, 1]⟩
abbrev S1x1x1x64x33 : Shape := ⟨5, ![1, 1, 1, 64, 33]⟩
abbrev S1x2048x12x64x33 : Shape := ⟨5, ![1, 2048, 12, 64, 33]⟩
abbrev S1x2048x12x33 : Shape := ⟨4, ![1, 2048, 12, 33]⟩
abbrev S1x2048x12 : Shape := ⟨3, ![1, 2048, 12]⟩
abbrev S1x2048x12x1 : Shape := ⟨4, ![1, 2048, 12, 1]⟩
abbrev S1x4096x12x33 : Shape := ⟨4, ![1, 4096, 12, 33]⟩
abbrev S1x4096x12x64 : Shape := ⟨4, ![1, 4096, 12, 64]⟩
abbrev S4096x768 : Shape := ⟨2, ![4096, 768]⟩
abbrev S4368x768 : Shape := ⟨2, ![4368, 768]⟩
abbrev S128x768 : Shape := ⟨2, ![128, 768]⟩
abbrev S128x1 : Shape := ⟨2, ![128, 1]⟩
abbrev S128x64 : Shape := ⟨2, ![128, 64]⟩
abbrev S136x768 : Shape := ⟨2, ![136, 768]⟩

abbrev nBuf : Space → Nat
  | .hbm => 113
  | .vmem => 7
  | .smem => 0
  | _ => 0

abbrev bufTy : (tb : Table) → Fin (tcTables nBuf tb) → BufTy
  | .hbm, ⟨0, _⟩ => ⟨S1x4096x768, .f32⟩
  | .hbm, ⟨1, _⟩ => ⟨S24x768, .f32⟩
  | .hbm, ⟨2, _⟩ => ⟨S24, .f32⟩
  | .hbm, ⟨3, _⟩ => ⟨S768x768, .f32⟩
  | .hbm, ⟨4, _⟩ => ⟨S768, .f32⟩
  | .hbm, ⟨5, _⟩ => ⟨S768x768, .f32⟩
  | .hbm, ⟨6, _⟩ => ⟨S64x33, .f32⟩
  | .hbm, ⟨7, _⟩ => ⟨S64x33, .f32⟩
  | .hbm, ⟨8, _⟩ => ⟨S1x1x1x33, .f32⟩
  | .hbm, ⟨9, _⟩ => ⟨S1x1x1x33, .f32⟩
  | .hbm, ⟨10, _⟩ => ⟨S1x2048x1x33, .f32⟩
  | .hbm, ⟨11, _⟩ => ⟨S1x2048x1x33, .f32⟩
  | .hbm, ⟨12, _⟩ => ⟨S1x2048x768, .f32⟩
  | .hbm, ⟨13, _⟩ => ⟨S768x768, .f32⟩
  | .hbm, ⟨14, _⟩ => ⟨S1x2048x768, .f32⟩
  | .hbm, ⟨15, _⟩ => ⟨S1x1x768, .f32⟩
  | .hbm, ⟨16, _⟩ => ⟨S1x2048x768, .f32⟩
  | .hbm, ⟨17, _⟩ => ⟨S1x2048x768, .f32⟩
  | .hbm, ⟨18, _⟩ => ⟨S1x2048x768, .f32⟩
  | .hbm, ⟨19, _⟩ => ⟨S1x2048x768, .f32⟩
  | .hbm, ⟨20, _⟩ => ⟨S_, .f32⟩
  | .hbm, ⟨21, _⟩ => ⟨S1x2048x768, .f32⟩
  | .hbm, ⟨22, _⟩ => ⟨S1x2048x768, .f32⟩
  | .hbm, ⟨23, _⟩ => ⟨S_, .f32⟩
  | .hbm, ⟨24, _⟩ => ⟨S1x2048x768, .f32⟩
  | .hbm, ⟨25, _⟩ => ⟨S1x2048x768, .f32⟩
  | .hbm, ⟨26, _⟩ => ⟨S1x2048x768, .f32⟩
  | .hbm, ⟨27, _⟩ => ⟨S1x2048x12x64, .f32⟩
  | .hbm, ⟨28, _⟩ => ⟨S1x2048x12x64x1, .f32⟩
  | .hbm, ⟨29, _⟩ => ⟨S1x1x1x64x33, .f32⟩
  | .hbm, ⟨30, _⟩ => ⟨S1x2048x12x64x33, .f32⟩
  | .hbm, ⟨31, _⟩ => ⟨S1x2048x12x64x33, .f32⟩
  | .hbm, ⟨32, _⟩ => ⟨S1x2048x12x64x33, .f32⟩
  | .hbm, ⟨33, _⟩ => ⟨S_, .f32⟩
  | .hbm, ⟨34, _⟩ => ⟨S1x2048x12x33, .f32⟩
  | .hbm, ⟨35, _⟩ => ⟨S1x2048x12x64x1, .f32⟩
  | .hbm, ⟨36, _⟩ => ⟨S1x1x1x64x33, .f32⟩
  | .hbm, ⟨37, _⟩ => ⟨S1x2048x12x64x33, .f32⟩
  | .hbm, ⟨38, _⟩ => ⟨S1x2048x12x64x33, .f32⟩
  | .hbm, ⟨39, _⟩ => ⟨S1x2048x12x64x33, .f32⟩
  | .hbm, ⟨40, _⟩ => ⟨S_, .f32⟩
  | .hbm, ⟨41, _⟩ => ⟨S1x2048x12x33, .f32⟩
  | .hbm, ⟨42, _⟩ => ⟨S1x2048x12x33, .f32⟩
  | .hbm, ⟨43, _⟩ => ⟨S1x2048x12x33, .f32⟩
  | .hbm, ⟨44, _⟩ => ⟨S1x2048x12x33, .f32⟩
  | .hbm, ⟨45, _⟩ => ⟨S1x2048x12x33, .f32⟩
  | .hbm, ⟨46, _⟩ => ⟨S1x2048x12x33, .f32⟩
  | .hbm, ⟨47, _⟩ => ⟨S1x2048x12x33, .f32⟩
  | .hbm, ⟨48, _⟩ => ⟨S1x2048x12x33, .f32⟩
  | .hbm, ⟨49, _⟩ => ⟨S_, .f32⟩
  | .hbm, ⟨50, _⟩ => ⟨S1x2048x12, .f32⟩
  | .hbm, ⟨51, _⟩ => ⟨S1x2048x12x1, .f32⟩
  | .hbm, ⟨52, _⟩ => ⟨S_, .f32⟩
  | .hbm, ⟨53, _⟩ => ⟨S1x2048x12x1, .f32⟩
  | .hbm, ⟨54, _⟩ => ⟨S1x2048x12x1, .f32⟩
  | .hbm, ⟨55, _⟩ => ⟨S1x2048x12x33, .f32⟩
  | .hbm, ⟨56, _⟩ => ⟨S1x2048x12x33, .f32⟩
  | .hbm, ⟨57, _⟩ => ⟨S1x2048x768, .f32⟩
  | .hbm, ⟨58, _⟩ => ⟨S768x768, .f32⟩
  | .hbm, ⟨59, _⟩ => ⟨S1x2048x768, .f32⟩
  | .hbm, ⟨60, _⟩ => ⟨S1x1x768, .f32⟩
  | .hbm, ⟨61, _⟩ => ⟨S1x2048x768, .f32⟩
  | .hbm, ⟨62, _⟩ => ⟨S1x2048x768, .f32⟩
  | .hbm, ⟨63, _⟩ => ⟨S1x2048x768, .f32⟩
  | .hbm, ⟨64, _⟩ => ⟨S1x2048x768, .f32⟩
  | .hbm, ⟨65, _⟩ => ⟨S_, .f32⟩
  | .hbm, ⟨66, _⟩ => ⟨S1x2048x768, .f32⟩
  | .hbm, ⟨67, _⟩ => ⟨S1x2048x768, .f32⟩
  | .hbm, ⟨68, _⟩ => ⟨S_, .f32⟩
  | .hbm, ⟨69, _⟩ => ⟨S1x2048x768, .f32⟩
  | .hbm, ⟨70, _⟩ => ⟨S1x2048x768, .f32⟩
  | .hbm, ⟨71, _⟩ => ⟨S1x2048x768, .f32⟩
  | .hbm, ⟨72, _⟩ => ⟨S1x2048x12x64, .f32⟩
  | .hbm, ⟨73, _⟩ => ⟨S1x2048x12x64x1, .f32⟩
  | .hbm, ⟨74, _⟩ => ⟨S1x1x1x64x33, .f32⟩
  | .hbm, ⟨75, _⟩ => ⟨S1x2048x12x64x33, .f32⟩
  | .hbm, ⟨76, _⟩ => ⟨S1x2048x12x64x33, .f32⟩
  | .hbm, ⟨77, _⟩ => ⟨S1x2048x12x64x33, .f32⟩
  | .hbm, ⟨78, _⟩ => ⟨S_, .f32⟩
  | .hbm, ⟨79, _⟩ => ⟨S1x2048x12x33, .f32⟩
  | .hbm, ⟨80, _⟩ => ⟨S1x2048x12x64x1, .f32⟩
  | .hbm, ⟨81, _⟩ => ⟨S1x1x1x64x33, .f32⟩
  | .hbm, ⟨82, _⟩ => ⟨S1x2048x12x64x33, .f32⟩
  | .hbm, ⟨83, _⟩ => ⟨S1x2048x12x64x33, .f32⟩
  | .hbm, ⟨84, _⟩ => ⟨S1x2048x12x64x33, .f32⟩
  | .hbm, ⟨85, _⟩ => ⟨S_, .f32⟩
  | .hbm, ⟨86, _⟩ => ⟨S1x2048x12x33, .f32⟩
  | .hbm, ⟨87, _⟩ => ⟨S1x2048x12x33, .f32⟩
  | .hbm, ⟨88, _⟩ => ⟨S1x2048x12x33, .f32⟩
  | .hbm, ⟨89, _⟩ => ⟨S1x2048x12x33, .f32⟩
  | .hbm, ⟨90, _⟩ => ⟨S1x2048x12x33, .f32⟩
  | .hbm, ⟨91, _⟩ => ⟨S1x2048x12x33, .f32⟩
  | .hbm, ⟨92, _⟩ => ⟨S1x2048x12x33, .f32⟩
  | .hbm, ⟨93, _⟩ => ⟨S1x2048x12x33, .f32⟩
  | .hbm, ⟨94, _⟩ => ⟨S_, .f32⟩
  | .hbm, ⟨95, _⟩ => ⟨S1x2048x12, .f32⟩
  | .hbm, ⟨96, _⟩ => ⟨S1x2048x12x1, .f32⟩
  | .hbm, ⟨97, _⟩ => ⟨S_, .f32⟩
  | .hbm, ⟨98, _⟩ => ⟨S1x2048x12x1, .f32⟩
  | .hbm, ⟨99, _⟩ => ⟨S1x2048x12x1, .f32⟩
  | .hbm, ⟨100, _⟩ => ⟨S1x2048x12x33, .f32⟩
  | .hbm, ⟨101, _⟩ => ⟨S1x2048x12x33, .f32⟩
  | .hbm, ⟨102, _⟩ => ⟨S1x4096x12x33, .f32⟩
  | .hbm, ⟨103, _⟩ => ⟨S_, .i32⟩
  | .hbm, ⟨104, _⟩ => ⟨S_, .f32⟩
  | .hbm, ⟨105, _⟩ => ⟨S1x4096x12x64, .f32⟩
  | .hbm, ⟨106, _⟩ => ⟨S4096x768, .f32⟩
  | .hbm, ⟨107, _⟩ => ⟨S4096x768, .f32⟩
  | .hbm, ⟨108, _⟩ => ⟨S768x768, .f32⟩
  | .hbm, ⟨109, _⟩ => ⟨S_, .i32⟩
  | .hbm, ⟨110, _⟩ => ⟨S_, .f32⟩
  | .hbm, ⟨111, _⟩ => ⟨S4368x768, .f32⟩
  | .hbm, ⟨112, _⟩ => ⟨S4096x768, .f32⟩
  | .local _ .vmem, ⟨0, _⟩ => ⟨S4368x768, .f32⟩
  | .local _ .vmem, ⟨1, _⟩ => ⟨S128x768, .f32⟩
  | .local _ .vmem, ⟨2, _⟩ => ⟨S128x768, .f32⟩
  | .local _ .vmem, ⟨3, _⟩ => ⟨S768x768, .f32⟩
  | .local _ .vmem, ⟨4, _⟩ => ⟨S128x768, .f32⟩
  | .local _ .vmem, ⟨5, _⟩ => ⟨S128x768, .f32⟩
  | .local _ .vmem, ⟨6, _⟩ => ⟨S128x768, .f32⟩
  | _, _ => ⟨S1x4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_cst_0 : Ref sig .tc := ⟨.hbm, 7, rfl⟩
abbrev main_cst_1 : Ref sig .tc := ⟨.hbm, 8, rfl⟩
abbrev main_cst_2 : Ref sig .tc := ⟨.hbm, 9, rfl⟩
abbrev main_cst_3 : Ref sig .tc := ⟨.hbm, 10, rfl⟩
abbrev main_cst_4 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_5 : Ref sig .tc := ⟨.hbm, 20, rfl⟩
abbrev main_v8 : Ref sig .tc := ⟨.hbm, 21, rfl⟩
abbrev main_v9 : Ref sig .tc := ⟨.hbm, 22, rfl⟩
abbrev main_cst_6 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_7 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_8 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_9 : Ref sig .tc := ⟨.hbm, 49, rfl⟩
abbrev main_v33 : Ref sig .tc := ⟨.hbm, 50, rfl⟩
abbrev main_v34 : Ref sig .tc := ⟨.hbm, 51, rfl⟩
abbrev main_cst_10 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_11 : Ref sig .tc := ⟨.hbm, 65, rfl⟩
abbrev main_v47 : Ref sig .tc := ⟨.hbm, 66, rfl⟩
abbrev main_v48 : Ref sig .tc := ⟨.hbm, 67, rfl⟩
abbrev main_cst_12 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_13 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_cst_14 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_cst_15 : Ref sig .tc := ⟨.hbm, 94, rfl⟩
abbrev main_v72 : Ref sig .tc := ⟨.hbm, 95, rfl⟩
abbrev main_v73 : Ref sig .tc := ⟨.hbm, 96, rfl⟩
abbrev main_cst_16 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_c : Ref sig .tc := ⟨.hbm, 103, rfl⟩
abbrev main_call0_v0 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_call1_c : Ref sig .tc := ⟨.hbm, 109, rfl⟩
abbrev main_call1_call0_v0 : Ref sig .tc := ⟨.hbm, 110, rfl⟩
abbrev main_call1_v0 : Ref sig .tc := ⟨.hbm, 111, rfl⟩
abbrev main_v83 : Ref sig .tc := ⟨.hbm, 112, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def k0_off1 (i : grid0.Coords) (c0_i32 : BitVec 32) : Fin 2 → Nat :=
  let arg0 : BitVec 32 := BitVec.ofNat 32 (i 0).val
  let c128_i32 : BitVec 32 := 128#32
  let v0 : BitVec 32 := Scalar.muli arg0 c128_i32
  let v7 : BitVec 32 := Scalar.addi v0 c0_i32
  let v8 : Index := Scalar.indexCast v7
  let c0_3 : Index := 0#32
  ![v8.toNat, 0]
def k0_off1_at (r : Fin 5) : BitVec 32 :=
  if r.val < 2 then
    if r.val < 1 then
      0#32
    else
      8#32
  else
    if r.val < 3 then
      136#32
    else
      if r.val < 4 then
        144#32
      else
        272#32
def k0_off2 (i : grid0.Coords) (c16_i32 : BitVec 32) : Fin 2 → Nat :=
  let arg0 : BitVec 32 := BitVec.ofNat 32 (i 0).val
  let c128_i32 : BitVec 32 := 128#32
  let v0 : BitVec 32 := Scalar.muli arg0 c128_i32
  let v123 : BitVec 32 := Scalar.addi v0 c16_i32
  let v124 : Index := Scalar.indexCast v123
  let c0_13 : Index := 0#32
  ![v124.toNat, 0]
def k0_off2_at (r : Fin 28) : BitVec 32 :=
  if r.val < 14 then
    if r.val < 7 then
      if r.val < 3 then
        if r.val < 1 then
          16#32
        else
          if r.val < 2 then
            24#32
          else
            32#32
      else
        if r.val < 5 then
          if r.val < 4 then
            40#32
          else
            48#32
        else
          if r.val < 6 then
            56#32
          else
            64#32
    else
      if r.val < 10 then
        if r.val < 8 then
          72#32
        else
          if r.val < 9 then
            80#32
          else
            88#32
      else
        if r.val < 12 then
          if r.val < 11 then
            96#32
          else
            104#32
        else
          if r.val < 13 then
            112#32
          else
            120#32
  else
    if r.val < 21 then
      if r.val < 17 then
        if r.val < 15 then
          152#32
        else
          if r.val < 16 then
            160#32
          else
            168#32
      else
        if r.val < 19 then
          if r.val < 18 then
            176#32
          else
            184#32
        else
          if r.val < 20 then
            192#32
          else
            200#32
    else
      if r.val < 24 then
        if r.val < 22 then
          208#32
        else
          if r.val < 23 then
            216#32
          else
            224#32
      else
        if r.val < 26 then
          if r.val < 25 then
            232#32
          else
            240#32
        else
          if r.val < 27 then
            248#32
          else
            256#32
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4368x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S768x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S1x4096x768 : Shape := ⟨3, ![1, 4096, 768]⟩
abbrev S24x768 : Shape := ⟨2, ![24, 768]⟩
abbrev S24 : Shape := ⟨1, ![24]⟩
abbrev S768x768 : Shape := ⟨2, ![768, 768]⟩
abbrev S768 : Shape := ⟨1, ![768]⟩
abbrev S33 : Shape := ⟨1, ![33]⟩
abbrev S_ : Shape := ⟨0, ![]⟩
abbrev S768x24 : Shape := ⟨2, ![768, 24]⟩
abbrev S1x4096x24 : Shape := ⟨3, ![1, 4096, 24]⟩
abbrev S1x1x24 : Shape := ⟨3, ![1, 1, 24]⟩
abbrev S1x4096x2x12 : Shape := ⟨4, ![1, 4096, 2, 12]⟩
abbrev S1x4096x1x12 : Shape := ⟨4, ![1, 4096, 1, 12]⟩
abbrev S1x4096x12 : Shape := ⟨3, ![1, 4096, 12]⟩
abbrev S1x4096 : Shape := ⟨2, ![1, 4096]⟩
abbrev S4096 : Shape := ⟨1, ![4096]⟩
abbrev S1x1x33 : Shape := ⟨3, ![1, 1, 33]⟩
abbrev S1x4096x1 : Shape := ⟨3, ![1, 4096, 1]⟩
abbrev S1x4096x33 : Shape := ⟨3, ![1, 4096, 33]⟩
abbrev S1 : Shape := ⟨1, ![1]⟩
abbrev S1x1x1 : Shape := ⟨3, ![1, 1, 1]⟩
abbrev S1x4096x33x1 : Shape := ⟨4, ![1, 4096, 33, 1]⟩
abbrev S1x4096x33x2 : Shape := ⟨4, ![1, 4096, 33, 2]⟩
abbrev S1x4096x33x768 : Shape := ⟨4, ![1, 4096, 33, 768]⟩
abbrev S1x4096x33x12x64 : Shape := ⟨5, ![1, 4096, 33, 12, 64]⟩
abbrev S1x4096x12x33x64 : Shape := ⟨5, ![1, 4096, 12, 33, 64]⟩
abbrev S1x1x768 : Shape := ⟨3, ![1, 1, 768]⟩
abbrev S1x4096x12x64 : Shape := ⟨4, ![1, 4096, 12, 64]⟩
abbrev S1x4096x1x33 : Shape := ⟨4, ![1, 4096, 1, 33]⟩
abbrev S1x4096x12x33 : Shape := ⟨4, ![1, 4096, 12, 33]⟩
abbrev S4096x12x33x1 : Shape := ⟨4, ![4096, 12, 33, 1]⟩
abbrev S1x1x1x1 : Shape := ⟨4, ![1, 1, 1, 1]⟩
abbrev S4096x12x33 : Shape := ⟨3, ![4096, 12, 33]⟩
abbrev S1x4096x12x1 : Shape := ⟨4, ![1, 4096, 12, 1]⟩
abbrev S4096x768 : Shape := ⟨2, ![4096, 768]⟩

abbrev nBuf : Space → Nat
  | .hbm => 246
  | .vmem => 0
  | .smem => 0
  | _ => 0

abbrev hbmTy0_0 (i : Nat) : BufTy := match i % 128 with
  | 0 => ⟨S1x4096x768, .f32⟩
  | 1 => ⟨S24x768, .f32⟩
  | 2 => ⟨S24, .f32⟩
  | 3 => ⟨S768x768, .f32⟩
  | 4 => ⟨S768, .f32⟩
  | 5 => ⟨S768x768, .f32⟩
  | 6 => ⟨S33, .f32⟩
  | 7 => ⟨S_, .f32⟩
  | 8 => ⟨S33, .f32⟩
  | 9 => ⟨S33, .f32⟩
  | 10 => ⟨S768x24, .f32⟩
  | 11 => ⟨S1x4096x24, .f32⟩
  | 12 => ⟨S1x1x24, .f32⟩
  | 13 => ⟨S1x4096x24, .f32⟩
  | 14 => ⟨S1x4096x24, .f32⟩
  | 15 => ⟨S1x4096x24, .f32⟩
  | 16 => ⟨S1x4096x24, .f32⟩
  | 17 => ⟨S_, .f32⟩
  | 18 => ⟨S1x4096x24, .f32⟩
  | 19 => ⟨S1x4096x24, .f32⟩
  | 20 => ⟨S_, .f32⟩
  | 21 => ⟨S1x4096x24, .f32⟩
  | 22 => ⟨S1x4096x24, .f32⟩
  | 23 => ⟨S1x4096x24, .f32⟩
  | 24 => ⟨S1x4096x2x12, .f32⟩
  | 25 => ⟨S1x4096x1x12, .f32⟩
  | 26 => ⟨S1x4096x12, .f32⟩
  | 27 => ⟨S1x4096x1x12, .f32⟩
  | 28 => ⟨S1x4096x12, .f32⟩
  | 29 => ⟨S1x4096x12, .f32⟩
  | 30 => ⟨S1x4096x12, .f32⟩
  | 31 => ⟨S_, .f32⟩
  | 32 => ⟨S1x4096x12, .f32⟩
  | 33 => ⟨S1x4096x12, .f32⟩
  | 34 => ⟨S_, .f32⟩
  | 35 => ⟨S1x4096x12, .f32⟩
  | 36 => ⟨S1x4096x12, .f32⟩
  | 37 => ⟨S_, .f32⟩
  | 38 => ⟨S1x4096x12, .f32⟩
  | 39 => ⟨S1x4096x12, .f32⟩
  | 40 => ⟨S_, .f32⟩
  | 41 => ⟨S1x4096x12, .f32⟩
  | 42 => ⟨S1x4096x12, .f32⟩
  | 43 => ⟨S1x4096x12, .f32⟩
  | 44 => ⟨S_, .f32⟩
  | 45 => ⟨S1x4096x12, .f32⟩
  | 46 => ⟨S1x4096x12, .f32⟩
  | 47 => ⟨S_, .f32⟩
  | 48 => ⟨S1x4096, .f32⟩
  | 49 => ⟨S_, .f32⟩
  | 50 => ⟨S1x4096, .f32⟩
  | 51 => ⟨S1x4096, .f32⟩
  | 52 => ⟨S_, .f32⟩
  | 53 => ⟨S1x4096, .f32⟩
  | 54 => ⟨S_, .f32⟩
  | 55 => ⟨S1x4096, .f32⟩
  | 56 => ⟨S1x4096, .f32⟩
  | 57 => ⟨S4096, .f32⟩
  | 58 => ⟨S1x1x33, .f32⟩
  | 59 => ⟨S1x4096x1, .f32⟩
  | 60 => ⟨S1x4096x1, .f32⟩
  | 61 => ⟨S1x4096x33, .f32⟩
  | 62 => ⟨S1x4096x33, .f32⟩
  | 63 => ⟨S1x4096x33, .f32⟩
  | 64 => ⟨S1x4096x33, .f32⟩
  | 65 => ⟨S1x4096x33, .f32⟩
  | 66 => ⟨S1x4096x1, .f32⟩
  | 67 => ⟨S1x4096x33, .f32⟩
  | 68 => ⟨S1x4096x33, .f32⟩
  | 69 => ⟨S_, .f32⟩
  | 70 => ⟨S1x4096x33, .f32⟩
  | 71 => ⟨S1x4096x33, .i1⟩
  | 72 => ⟨S_, .f32⟩
  | 73 => ⟨S1x4096x33, .f32⟩
  | 74 => ⟨S1x4096x33, .i1⟩
  | 75 => ⟨S1x4096x33, .i1⟩
  | 76 => ⟨S1x4096x33, .i32⟩
  | 77 => ⟨S_, .i32⟩
  | 78 => ⟨S_, .i32⟩
  | 79 => ⟨S_, .i32⟩
  | 80 => ⟨S1x4096x33, .i32⟩
  | 81 => ⟨S1x4096x33, .i32⟩
  | 82 => ⟨S_, .i32⟩
  | 83 => ⟨S1x4096x33, .i32⟩
  | 84 => ⟨S1x4096x33, .i32⟩
  | 85 => ⟨S1x4096x1, .f32⟩
  | 86 => ⟨S1x4096x33, .f32⟩
  | 87 => ⟨S1x4096x33, .f32⟩
  | 88 => ⟨S1x4096x33, .f32⟩
  | 89 => ⟨S1x4096x1, .f32⟩
  | 90 => ⟨S1x4096x33, .f32⟩
  | 91 => ⟨S1x4096x33, .f32⟩
  | 92 => ⟨S1, .i32⟩
  | 93 => ⟨S1x1x1, .i32⟩
  | 94 => ⟨S_, .i32⟩
  | 95 => ⟨S1x1x1, .i32⟩
  | 96 => ⟨S1x1x1, .i1⟩
  | 97 => ⟨S_, .i32⟩
  | 98 => ⟨S1x1x1, .i32⟩
  | 99 => ⟨S1x1x1, .i32⟩
  | 100 => ⟨S1x1x1, .i32⟩
  | 101 => ⟨S_, .i32⟩
  | 102 => ⟨S1x4096x33, .i32⟩
  | 103 => ⟨S1x4096x33, .i1⟩
  | 104 => ⟨S_, .i32⟩
  | 105 => ⟨S1x4096x33, .i32⟩
  | 106 => ⟨S1x4096x33, .i32⟩
  | 107 => ⟨S1x4096x33, .i32⟩
  | 108 => ⟨S1x4096x33, .i32⟩
  | 109 => ⟨S1x4096x33x1, .i32⟩
  | 110 => ⟨S1x4096x33x1, .i32⟩
  | 111 => ⟨S1x4096x33x2, .i32⟩
  | 112 => ⟨S1x4096x33x768, .f32⟩
  | 113 => ⟨S1x4096x33x12x64, .f32⟩
  | 114 => ⟨S1x4096x12x33x64, .f32⟩
  | 115 => ⟨S768x768, .f32⟩
  | 116 => ⟨S1x4096x768, .f32⟩
  | 117 => ⟨S1x1x768, .f32⟩
  | 118 => ⟨S1x4096x768, .f32⟩
  | 119 => ⟨S1x4096x768, .f32⟩
  | 120 => ⟨S1x4096x768, .f32⟩
  | 121 => ⟨S1x4096x768, .f32⟩
  | 122 => ⟨S_, .f32⟩
  | 123 => ⟨S1x4096x768, .f32⟩
  | 124 => ⟨S1x4096x768, .f32⟩
  | 125 => ⟨S_, .f32⟩
  | 126 => ⟨S1x4096x768, .f32⟩
  | 127 => ⟨S1x4096x768, .f32⟩
  | _ => ⟨S1x4096x768, .f32⟩

abbrev hbmTy0_1 (i : Nat) : BufTy := match i % 128 with
  | 0 => ⟨S1x4096x768, .f32⟩
  | 1 => ⟨S1x4096x12x64, .f32⟩
  | 2 => ⟨S_, .f32⟩
  | 3 => ⟨S1x4096x33, .f32⟩
  | 4 => ⟨S1x4096x33, .f32⟩
  | 5 => ⟨S_, .f32⟩
  | 6 => ⟨S1x4096x33, .f32⟩
  | 7 => ⟨S1x4096x33, .f32⟩
  | 8 => ⟨S_, .f32⟩
  | 9 => ⟨S_, .f32⟩
  | 10 => ⟨S_, .f32⟩
  | 11 => ⟨S1x4096x33, .f32⟩
  | 12 => ⟨S1x4096x33, .f32⟩
  | 13 => ⟨S_, .f32⟩
  | 14 => ⟨S1x4096x33, .f32⟩
  | 15 => ⟨S1x4096x33, .f32⟩
  | 16 => ⟨S_, .f32⟩
  | 17 => ⟨S1x4096x33, .f32⟩
  | 18 => ⟨S1x4096x33, .f32⟩
  | 19 => ⟨S1x4096x33, .i32⟩
  | 20 => ⟨S_, .i32⟩
  | 21 => ⟨S_, .i32⟩
  | 22 => ⟨S_, .i32⟩
  | 23 => ⟨S1x4096x33, .i32⟩
  | 24 => ⟨S1x4096x33, .i32⟩
  | 25 => ⟨S_, .i32⟩
  | 26 => ⟨S1x4096x33, .i32⟩
  | 27 => ⟨S1x4096x33, .i32⟩
  | 28 => ⟨S_, .i32⟩
  | 29 => ⟨S1x4096x33, .i32⟩
  | 30 => ⟨S1x4096x33, .i32⟩
  | 31 => ⟨S1x4096x33, .f32⟩
  | 32 => ⟨S1x4096x33, .f32⟩
  | 33 => ⟨S1x4096x1x33, .f32⟩
  | 34 => ⟨S_, .f32⟩
  | 35 => ⟨S1x4096x1x33, .f32⟩
  | 36 => ⟨S1x4096x1x33, .f32⟩
  | 37 => ⟨S1x4096x1x33, .i32⟩
  | 38 => ⟨S1x4096x12x33, .i32⟩
  | 39 => ⟨S1x4096x1x33, .i32⟩
  | 40 => ⟨S1x4096x12x33, .i32⟩
  | 41 => ⟨S_, .i32⟩
  | 42 => ⟨S1x4096x12x33, .i32⟩
  | 43 => ⟨S1x4096x12x33, .i1⟩
  | 44 => ⟨S_, .i32⟩
  | 45 => ⟨S1x4096x12x33, .i32⟩
  | 46 => ⟨S1x4096x12x33, .i32⟩
  | 47 => ⟨S1x4096x12x33, .i32⟩
  | 48 => ⟨S4096x12x33x1, .i32⟩
  | 49 => ⟨S1, .i32⟩
  | 50 => ⟨S_, .i32⟩
  | 51 => ⟨S4096x12x33x1, .i32⟩
  | 52 => ⟨S4096x12x33x1, .i1⟩
  | 53 => ⟨S1x1x1x1, .i32⟩
  | 54 => ⟨S4096x12x33x1, .i32⟩
  | 55 => ⟨S4096x12x33x1, .i1⟩
  | 56 => ⟨S4096x12x33x1, .i1⟩
  | 57 => ⟨S_, .i1⟩
  | 58 => ⟨S4096x12x33, .i1⟩
  | 59 => ⟨S1x4096x12x33, .f32⟩
  | 60 => ⟨S1x4096x12x33, .i1⟩
  | 61 => ⟨S_, .f32⟩
  | 62 => ⟨S1x4096x12x33, .f32⟩
  | 63 => ⟨S1x4096x12x33, .f32⟩
  | 64 => ⟨S_, .i32⟩
  | 65 => ⟨S1x4096x12x33, .i32⟩
  | 66 => ⟨S1x4096x12x33, .i1⟩
  | 67 => ⟨S_, .i32⟩
  | 68 => ⟨S1x4096x12x33, .i32⟩
  | 69 => ⟨S1x4096x12x33, .i32⟩
  | 70 => ⟨S1x4096x12x33, .i32⟩
  | 71 => ⟨S4096x12x33x1, .i32⟩
  | 72 => ⟨S1, .i32⟩
  | 73 => ⟨S_, .i32⟩
  | 74 => ⟨S4096x12x33x1, .i32⟩
  | 75 => ⟨S4096x12x33x1, .i1⟩
  | 76 => ⟨S1x1x1x1, .i32⟩
  | 77 => ⟨S4096x12x33x1, .i32⟩
  | 78 => ⟨S4096x12x33x1, .i1⟩
  | 79 => ⟨S4096x12x33x1, .i1⟩
  | 80 => ⟨S_, .i1⟩
  | 81 => ⟨S4096x12x33, .i1⟩
  | 82 => ⟨S1x4096x12x33, .f32⟩
  | 83 => ⟨S1x4096x12x33, .i1⟩
  | 84 => ⟨S_, .f32⟩
  | 85 => ⟨S1x4096x12x33, .f32⟩
  | 86 => ⟨S1x4096x12x33, .f32⟩
  | 87 => ⟨S1x4096x12x33, .f32⟩
  | 88 => ⟨S1x4096x12x33, .f32⟩
  | 89 => ⟨S1x4096x12x33, .f32⟩
  | 90 => ⟨S1x4096x12x33, .f32⟩
  | 91 => ⟨S1x4096x12x33, .f32⟩
  | 92 => ⟨S1x4096x1x33, .i1⟩
  | 93 => ⟨S1x4096x12x33, .i1⟩
  | 94 => ⟨S1x4096x12x33, .f32⟩
  | 95 => ⟨S1x4096x12x33, .f32⟩
  | 96 => ⟨S_, .f32⟩
  | 97 => ⟨S1x4096x12, .f32⟩
  | 98 => ⟨S1x4096x12x1, .f32⟩
  | 99 => ⟨S_, .f32⟩
  | 100 => ⟨S1x4096x12x1, .f32⟩
  | 101 => ⟨S1x4096x12x1, .f32⟩
  | 102 => ⟨S1x4096x12x33, .f32⟩
  | 103 => ⟨S1x4096x12x33, .f32⟩
  | 104 => ⟨S1x4096x12x64, .f32⟩
  | 105 => ⟨S1x4096x768, .f32⟩
  | 106 => ⟨S768x768, .f32⟩
  | 107 => ⟨S1x4096x768, .f32⟩
  | 108 => ⟨S1x4096x768, .f32⟩
  | 109 => ⟨S1x4096x768, .f32⟩
  | 110 => ⟨S_, .f32⟩
  | 111 => ⟨S1x4096x768, .f32⟩
  | 112 => ⟨S1x4096x768, .f32⟩
  | 113 => ⟨S_, .f32⟩
  | 114 => ⟨S1x4096x768, .f32⟩
  | 115 => ⟨S1x4096x768, .f32⟩
  | 116 => ⟨S1x4096x768, .f32⟩
  | 117 => ⟨S4096x768, .f32⟩
  | _ => ⟨S1x4096x768, .f32⟩

abbrev hbmTy (i : Nat) : BufTy := match i / 128 with
  | 0 => hbmTy0_0 i
  | 1 => hbmTy0_1 i
  | _ => ⟨S1x4096x768, .f32⟩

abbrev bufTy : (tb : Table) → Fin (tcTables nBuf tb) → BufTy
  | .hbm, ⟨i, _⟩ => hbmTy i
  | _, _ => ⟨S1x4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_6 : Ref sig .tc := ⟨.hbm, 44, rfl⟩
abbrev main_v31 : Ref sig .tc := ⟨.hbm, 45, rfl⟩
abbrev main_v32 : Ref sig .tc := ⟨.hbm, 46, rfl⟩
abbrev main_cst_7 : Ref sig .tc := ⟨.hbm, 47, rfl⟩
abbrev main_v33 : Ref sig .tc := ⟨.hbm, 48, rfl⟩
abbrev main_cst_8 : Ref sig .tc := ⟨.hbm, 49, rfl⟩
abbrev main_v34 : Ref sig .tc := ⟨.hbm, 50, rfl⟩
abbrev main_v35 : Ref sig .tc := ⟨.hbm, 51, rfl⟩
abbrev main_cst_9 : Ref sig .tc := ⟨.hbm, 52, rfl⟩
abbrev main_v36 : Ref sig .tc := ⟨.hbm, 53, rfl⟩
abbrev main_cst_10 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_11 : Ref sig .tc := ⟨.hbm, 69, rfl⟩
abbrev main_v51 : Ref sig .tc := ⟨.hbm, 70, rfl⟩
abbrev main_v52 : Ref sig .tc := ⟨.hbm, 71, rfl⟩
abbrev main_cst_12 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_c : Ref sig .tc := ⟨.hbm, 77, rfl⟩
abbrev main_c_13 : Ref sig .tc := ⟨.hbm, 78, rfl⟩
abbrev main_call0_v0 : Ref sig .tc := ⟨.hbm, 79, rfl⟩
abbrev main_call0_v1 : Ref sig .tc := ⟨.hbm, 80, rfl⟩
abbrev main_call0_v2 : Ref sig .tc := ⟨.hbm, 81, rfl⟩
abbrev main_call0_v3 : Ref sig .tc := ⟨.hbm, 82, rfl⟩
abbrev main_call0_v4 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_c_14 : Ref sig .tc := ⟨.hbm, 94, rfl⟩
abbrev main_v67 : Ref sig .tc := ⟨.hbm, 95, rfl⟩
abbrev main_v68 : Ref sig .tc := ⟨.hbm, 96, rfl⟩
abbrev main_c_15 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_c_16 : Ref sig .tc := ⟨.hbm, 101, rfl⟩
abbrev main_v72 : Ref sig .tc := ⟨.hbm, 102, rfl⟩
abbrev main_v73 : Ref sig .tc := ⟨.hbm, 103, rfl⟩
abbrev main_c_17 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_cst_18 : Ref sig .tc := ⟨.hbm, 122, rfl⟩
abbrev main_v91 : Ref sig .tc := ⟨.hbm, 123, rfl⟩
abbrev main_v92 : Ref sig .tc := ⟨.hbm, 124, rfl⟩
abbrev main_cst_19 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_cst_20 : Ref sig .tc := ⟨.hbm, 130, rfl⟩
abbrev main_v97 : Ref sig .tc := ⟨.hbm, 131, rfl⟩
abbrev main_v98 : Ref sig .tc := ⟨.hbm, 132, rfl⟩
abbrev main_cst_21 : Ref sig .tc := ⟨.hbm, 133, rfl⟩
abbrev main_v99 : Ref sig .tc := ⟨.hbm, 134, rfl⟩
abbrev main_v100 : Ref sig .tc := ⟨.hbm, 135, rfl⟩
abbrev main_cst_22 : Ref sig .tc := ⟨.hbm, 136, rfl⟩
abbrev main_cst_23 : Ref sig .tc := ⟨.hbm, 137, rfl⟩
abbrev main_call1_v0 : Ref sig .tc := ⟨.hbm, 138, rfl⟩
abbrev main_call1_v1 : Ref sig .tc := ⟨.hbm, 139, rfl⟩
abbrev main_call1_v2 : Ref sig .tc := ⟨.hbm, 140, rfl⟩
abbrev main_call1_v3 : Ref sig .tc := ⟨.hbm, 141, rfl⟩
abbrev main_call1_v4 : Ref sig .tc := ⟨.hbm, 142, rfl⟩
abbrev main_v101 : Ref sig .tc := ⟨.hbm, 143, rfl⟩
abbrev main_cst_24 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_c_25 : Ref sig .tc := ⟨.hbm, 148, rfl⟩
abbrev main_c_26 : Ref sig .tc := ⟨.hbm, 149, rfl⟩
abbrev main_call2_v0 : Ref sig .tc := ⟨.hbm, 150, rfl⟩
abbrev main_call2_v1 : Ref sig .tc := ⟨.hbm, 151, rfl⟩
abbrev main_call2_v2 : Ref sig .tc := ⟨.hbm, 152, rfl⟩
abbrev main_call2_v3 : Ref sig .tc := ⟨.hbm, 153, rfl⟩
abbrev main_call2_v4 : Ref sig .tc := ⟨.hbm, 154, rfl⟩
abbrev main_v105 : Ref sig .tc := ⟨.hbm, 155, rfl⟩
abbrev main_c_27 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_cst_28 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_call3_c : Ref sig .tc := ⟨.hbm, 169, rfl⟩
abbrev main_call3_v0 : Ref sig .tc := ⟨.hbm, 170, rfl⟩
abbrev main_call3_v1 : Ref sig .tc := ⟨.hbm, 171, rfl⟩
abbrev main_call3_c_0 : Ref sig .tc := ⟨.hbm, 172, rfl⟩
abbrev main_call3_v2 : Ref sig .tc := ⟨.hbm, 173, rfl⟩
abbrev main_call3_v3 : Ref sig .tc := ⟨.hbm, 174, rfl⟩
abbrev main_call3_v4 : Ref sig .tc := ⟨.hbm, 175, rfl⟩
abbrev main_call3_v5 : Ref sig .tc := ⟨.hbm, 176, rfl⟩
abbrev main_call3_c_1 : Ref sig .tc := ⟨.hbm, 177, rfl⟩
abbrev main_call3_c_2 : Ref sig .tc := ⟨.hbm, 178, rfl⟩
abbrev main_call3_v6 : Ref sig .tc := ⟨.hbm, 179, rfl⟩
abbrev main_call3_v7 : Ref sig .tc := ⟨.hbm, 180, rfl⟩
abbrev main_call3_v8 : Ref sig .tc := ⟨.hbm, 181, rfl⟩
abbrev main_call3_v9 : Ref sig .tc := ⟨.hbm, 182, rfl⟩
abbrev main_call3_v10 : Ref sig .tc := ⟨.hbm, 183, rfl⟩
abbrev main_call3_v11 : Ref sig .tc := ⟨.hbm, 184, rfl⟩
abbrev main_call3_c_3 : Ref sig .tc := ⟨.hbm, 185, rfl⟩
abbrev main_call3_v12 : Ref sig .tc := ⟨.hbm, 186, rfl⟩
abbrev main_call3_v13 : Ref sig .tc := ⟨.hbm, 187, rfl⟩
abbrev main_call3_v14 : Ref sig .tc := ⟨.hbm, 188, rfl⟩
abbrev main_call3_cst : Ref sig .tc := ⟨.hbm, 189, rfl⟩
abbrev main_call3_v15 : Ref sig .tc := ⟨.hbm, 190, rfl⟩
abbrev main_v117 : Ref sig .tc := ⟨.hbm, 191, rfl⟩
abbrev main_call4_c : Ref sig .tc := ⟨.hbm, 192, rfl⟩
abbrev main_call4_v0 : Ref sig .tc := ⟨.hbm, 193, rfl⟩
abbrev main_call4_v1 : Ref sig .tc := ⟨.hbm, 194, rfl⟩
abbrev main_call4_c_0 : Ref sig .tc := ⟨.hbm, 195, rfl⟩
abbrev main_call4_v2 : Ref sig .tc := ⟨.hbm, 196, rfl⟩
abbrev main_call4_v3 : Ref sig .tc := ⟨.hbm, 197, rfl⟩
abbrev main_call4_v4 : Ref sig .tc := ⟨.hbm, 198, rfl⟩
abbrev main_call4_v5 : Ref sig .tc := ⟨.hbm, 199, rfl⟩
abbrev main_call4_c_1 : Ref sig .tc := ⟨.hbm, 200, rfl⟩
abbrev main_call4_c_2 : Ref sig .tc := ⟨.hbm, 201, rfl⟩
abbrev main_call4_v6 : Ref sig .tc := ⟨.hbm, 202, rfl⟩
abbrev main_call4_v7 : Ref sig .tc := ⟨.hbm, 203, rfl⟩
abbrev main_call4_v8 : Ref sig .tc := ⟨.hbm, 204, rfl⟩
abbrev main_call4_v9 : Ref sig .tc := ⟨.hbm, 205, rfl⟩
abbrev main_call4_v10 : Ref sig .tc := ⟨.hbm, 206, rfl⟩
abbrev main_call4_v11 : Ref sig .tc := ⟨.hbm, 207, rfl⟩
abbrev main_call4_c_3 : Ref sig .tc := ⟨.hbm, 208, rfl⟩
abbrev main_call4_v12 : Ref sig .tc := ⟨.hbm, 209, rfl⟩
abbrev main_call4_v13 : Ref sig .tc := ⟨.hbm, 210, rfl⟩
abbrev main_call4_v14 : Ref sig .tc := ⟨.hbm, 211, rfl⟩
abbrev main_call4_cst : Ref sig .tc := ⟨.hbm, 212, rfl⟩
abbrev main_call4_v15 : Ref sig .tc := ⟨.hbm, 213, rfl⟩
abbrev main_v118 : Ref sig .tc := ⟨.hbm, 214, rfl⟩
abbrev main_v119 : Ref sig .tc := ⟨.hbm, 215, rfl⟩
abbrev main_v120 : Ref sig .tc := ⟨.hbm, 216, rfl⟩
abbrev main_v121 : Ref sig .tc := ⟨.hbm, 217, rfl⟩
abbrev main_v122 : Ref sig .tc := ⟨.hbm, 218, rfl⟩
abbrev main_v123 : Ref sig .tc := ⟨.hbm, 219, rfl⟩
abbrev main_v124 : Ref sig .tc := ⟨.hbm, 220, rfl⟩
abbrev main_v125 : Ref sig .tc := ⟨.hbm, 221, rfl⟩
abbrev main_v126 : Ref sig .tc := ⟨.hbm, 222, rfl⟩
abbrev main_v127 : Ref sig .tc := ⟨.hbm, 223, rfl⟩
abbrev main_cst_29 : Ref sig .tc := ⟨.hbm, 224, rfl⟩
abbrev main_v128 : Ref sig .tc := ⟨.hbm, 225, rfl⟩
abbrev main_v129 : Ref sig .tc := ⟨.hbm, 226, rfl⟩
abbrev main_cst_30 : Ref sig .tc := ⟨.hbm, 227, rfl⟩
abbrev main_v130 : Ref sig .tc := ⟨.hbm, 228, rfl⟩
abbrev main_v131 : Ref sig .tc := ⟨.hbm, 229, rfl⟩
abbrev main_v132 : Ref sig .tc := ⟨.hbm, 230, rfl⟩
abbrev main_v133 : Ref sig .tc := ⟨.hbm, 231, rfl⟩
abbrev main_v134 : Ref sig .tc := ⟨.hbm, 232, rfl⟩
abbrev main_v135 : Ref sig .tc := ⟨.hbm, 233, rfl⟩
abbrev main_v136 : Ref sig .tc := ⟨.hbm, 234, rfl⟩
abbrev main_v137 : Ref sig .tc := ⟨.hbm, 235, rfl⟩
abbrev main_v138 : Ref sig .tc := ⟨.hbm, 236, rfl⟩
abbrev main_v139 : Ref sig .tc := ⟨.hbm, 237, rfl⟩
abbrev main_cst_31 : Ref sig .tc := ⟨.hbm, 238, rfl⟩
abbrev main_v140 : Ref sig .tc := ⟨.hbm, 239, rfl⟩
abbrev main_v141 : Ref sig .tc := ⟨.hbm, 240, rfl⟩
abbrev main_cst_32 : Ref sig .tc := ⟨.hbm, 241, rfl⟩
abbrev main_v142 : Ref sig .tc := ⟨.hbm, 242, rfl⟩
abbrev main_v143 : Ref sig .tc := ⟨.hbm, 243, rfl⟩
abbrev main_v144 : Ref sig .tc := ⟨.hbm, 244, rfl⟩
abbrev main_v145 : Ref sig .tc := ⟨.hbm, 245, rfl⟩

abbrev nD : Nat := 1
abbrev τ : Topo := Topo.v7x

variable {F : FTy → Type} [FloatOps F]
-- ==== Proof.Body.Step.lean ====
/- One tap of the kernel's body: the sample's rows, weighted head by head and added to the accumulator. -/
module

public import proofs.«01_k».proof.Proof.Gen.KernelIdeal.Skeleton
public import Idealize.ShloMosaic.PureOps.Ideal
public import Idealize.ShloMosaic.Lib.Pipeline.ValueKit
public import Idealize.ShloMosaic.Lib.Pointwise

@[expose] public section

set_option maxRecDepth 16384

noncomputable section

namespace Cert.KernelIdeal.Body

open Cert.KernelIdeal Cert.KernelIdeal.Gen Idealize.ShloMosaic Idealize.ShloMosaic.TcCoe Idealize.SL.Sem

/-- Head `h`'s column of the weights at tap `s` is within the matrix. -/
theorem slices_column (s : ℕ) (hs : s < 33) (h : Fin 12) : S128x768.Slices ![0, 64 * h.val + s] S128x1 :=
  ⟨rfl, fun a => by
    have := h.2
    fin_cases a
    · exact Nat.le_refl 128
    · show 64 * h.val + s + 1 ≤ 768; omega⟩

/-- Head `h`'s 64 channels are within the matrix. -/
theorem slices_head (h : Fin 12) : S128x768.Slices ![0, 64 * h.val] S128x64 :=
  ⟨rfl, fun a => by
    have := h.2
    fin_cases a
    · exact Nat.le_refl 128
    · show 64 * h.val + 64 ≤ 768; omega⟩

/-- Head `h`'s channels of a tap: its weight's column times the sample's channels. -/
def piece (s : ℕ) (hs : s < 33) (w xs : FVec Ideal S128x768 .f32) (h : Fin 12) : FVec Ideal S128x64 .f32 :=
  mulf (broadcastTo S128x64 (extractStridedSlice S128x1 ![0, 64 * h.val + s] w (slices_column s hs h)) broadcasts_S128x1_S128x64)
    (extractStridedSlice S128x64 ![0, 64 * h.val] xs (slices_head h))

theorem concatenates_heads {α : Type} (f : Fin 12 → S128x64.Idx → α) :
    Shape.Concatenates ((List.ofFn fun n : Fin 12 => (⟨S128x64, f n⟩ : (s : Shape) × (s.Idx → α))).map (·.1)) S128x768 1 :=
  concatenates_S128x64_S128x64_S128x64_S128x64_S128x64_S128x64_S128x64_S128x64_S128x64_S128x64_S128x64_S128x64_S128x768_d1

/-- The accumulator after tap `s`. -/
def tapStep (s : ℕ) (hs : s < 33) (w xs acc : FVec Ideal S128x768 .f32) : FVec Ideal S128x768 .f32 :=
  shapeCast S128x768 (addf acc
    (concatenate S128x768 1 (List.ofFn fun n : Fin 12 => ⟨S128x64, piece s hs w xs n⟩) (concatenates_heads (piece s hs w xs))))
    shapeCasts_S128x768_S128x768

theorem piece_apply (s : ℕ) (hs : s < 33) (w xs : FVec Ideal S128x768 .f32) (h : Fin 12) (r : Fin 128) (j : Fin 64) :
    piece s hs w xs h (ix2 r j) =
      (w (ix2 r ⟨64 * h.val + s, by omega⟩) * xs (ix2 r ⟨64 * h.val + j, by omega⟩) : EReal) := by
  unfold piece
  pointwise

/-- Each channel's accumulator grows by its head's weight times the sample. -/
theorem tapStep_apply (s : ℕ) (hs : s < 33) (w xs acc : FVec Ideal S128x768 .f32) (r : Fin 128) (c : Fin 768) :
    tapStep s hs w xs acc (ix2 r c) =
      (acc (ix2 r c) + w (ix2 r ⟨64 * (c.val / 64) + s, by omega⟩) * xs (ix2 r c) : EReal) := by
  unfold tapStep
  rw [shapeCast_self]
  refine congrArg (fun z : EReal => (acc (ix2 r c) : EReal) + z) ?_
  refine (concatenate_ofFn_apply (1 : Fin S128x768.rank) (piece s hs w xs) _ rfl 64 rfl (ix2 r c) ⟨c.val / 64, by omega⟩ rfl
    (ix2 r ⟨c.val % 64, by omega⟩) rfl ?_).trans ?_
  · intro b hb
    fin_cases b
    · rfl
    · exact absurd rfl hb
  · rw [piece_apply]
    have : (⟨64 * (c.val / 64) + c.val % 64, by omega⟩ : Fin 768) = c := Fin.ext (Nat.div_add_mod _ _)
    simp only [this]

end Cert.KernelIdeal.Body

end
-- ==== Proof.Body.Accum.lean ====
/- The kernel's body at one grid point: 33 taps accumulated, then the output projection and activation. -/
module

public import proofs.«01_k».proof.Proof.Body.Step
public import proofs.«01_k».proof.Proof.Gen.KernelIdeal.Value
public import Idealize.ShloMosaic.Lib.Pipeline.ReadBack

@[expose] public section

set_option maxRecDepth 16384

noncomputable section

namespace Cert.KernelIdeal.Body

open Cert.KernelIdeal Cert.KernelIdeal.Gen Idealize.ShloMosaic Idealize.ShloMosaic.TcCoe Idealize.SL.Sem

/-- The rows of tap `s` start at a multiple of eight … -/
def base (s : ℕ) : ℕ := 17 * s / 2 / 8 * 8
/-- … plus this many. -/
def rest (s : ℕ) : ℕ := 17 * s / 2 % 8

/-- The first row a grid point loads for a tap, as the word it is computed as. -/
theorem off_toNat (i : grid0.Coords) (n : ℕ) (hn : n ≤ 272) :
    (Scalar.addi (Scalar.muli (BitVec.ofNat 32 (i 0).val) 128#32) (BitVec.ofNat 32 n)).toNat = 128 * (i 0).val + n := by
  have h : (i 0).val < 32 := (i 0).2
  simp only [Scalar.addi, Scalar.muli, IntOp.addi, IntOp.muli, BitVec.toNat_add, BitVec.toNat_mul, BitVec.toNat_ofNat]
  omega

theorem base_le (s : ℕ) (hs : s < 33) : base s ≤ 272 := by unfold base; omega

theorem base_le_of_rest (s : ℕ) (hs : s < 33) (h : ¬ rest s = 0) : base s ≤ 256 := by
  unfold rest at h; unfold base; interval_cases s <;> omega

theorem inb_aligned (i : grid0.Coords) (s : ℕ) (hs : s < 33) :
    ∀ a, (k0_off1 i (BitVec.ofNat 32 (base s))) a + S128x768.size a ≤ S4368x768.size a := by
  intro a
  have h : (i 0).val < 32 := (i 0).2
  have hb := base_le s hs
  fin_cases a
  · refine le_trans (Nat.add_le_add_right (off_toNat i (base s) hb).le 128) ?_
    show _ ≤ 4368
    omega
  · exact Nat.le_refl 768

theorem inb_shifted (i : grid0.Coords) (s : ℕ) (hs : s < 33) (hr : ¬ rest s = 0) :
    ∀ a, (k0_off2 i (BitVec.ofNat 32 (base s))) a + S136x768.size a ≤ S4368x768.size a := by
  intro a
  have h : (i 0).val < 32 := (i 0).2
  have hb := base_le_of_rest s hs hr
  fin_cases a
  · refine le_trans (Nat.add_le_add_right (off_toNat i (base s) (by omega)).le 136) ?_
    show _ ≤ 4368
    omega
  · exact Nat.le_refl 768

theorem slices_rest (s : ℕ) : S136x768.Slices ![rest s, 0] S128x768 :=
  ⟨rfl, fun a => by
    fin_cases a
    · show rest s + 128 ≤ 136; unfold rest; omega
    · exact Nat.le_refl 768⟩

/-- The rows of tap `s`: loaded as they are where they start at a multiple of eight, else cut out of eight rows more. -/
def rows (i : grid0.Coords) (x : FVec Ideal S4368x768 .f32) (s : ℕ) (hs : s < 33) : FVec Ideal S128x768 .f32 :=
  if h : rest s = 0 then
    shapeCast S128x768 (View.ld (Val := Elt Ideal) (e' := .f32) x
      (Rect.unit (s := S4368x768) (k0_off1 i (BitVec.ofNat 32 (base s))) S128x768.size (inb_aligned i s hs))) shapeCasts_S128x768_S128x768
  else
    extractStridedSlice S128x768 ![rest s, 0] (shapeCast S136x768 (View.ld (Val := Elt Ideal) (e' := .f32) x
      (Rect.unit (s := S4368x768) (k0_off2 i (BitVec.ofNat 32 (base s))) S136x768.size (inb_shifted i s hs h))) shapeCasts_S136x768_S136x768)
      (slices_rest s)

/-- The accumulator after the first `n` taps. -/
def accum (i : grid0.Coords) (x : FVec Ideal S4368x768 .f32) (w : FVec Ideal S128x768 .f32) :
    (n : ℕ) → n ≤ 33 → FVec Ideal S128x768 .f32
  | 0, _ => k0_pay4
  | n + 1, h => tapStep n h (k0_pay3 w) (rows i x n h) (accum i x w n (Nat.le_of_succ_le h))

variable (m : (ℓ : Loc nD τ sig) → Buf (Elt Ideal) ℓ)

set_option maxHeartbeats 4000000 in
/-- What a grid point stores. -/
theorem outsAt0_eq (c : Dev nD) (t : Fin cfg0.N) :
    outsAt0 m c t = k0_pay2 (accum (grid0.coords t) (iblk m c 0 t) (iblk m c 1 t) 33 (le_refl 33)) (iblk m c 2 t) := by
  unfold outsAt0
  frame_open
  simp (disch := decide) only [↓ View.readCov_skip, ↓ View.readCov_cons_toLoadRect, ↓ View.readCov_fill]
  frame_out
  rfl

end Cert.KernelIdeal.Body

end
-- ==== Proof.Words.lean ====
/- The real numbers that the float words of the two programs denote. -/
module

public import Idealize.ShloMosaic.PureOps.Ideal
public import Idealize.ShloMosaic.PureOps.Ideal.Laws
public import Idealize.ShloMosaic.Lib.IdealHost

@[expose] public section

noncomputable section

namespace Cert.Words

open Idealize.ShloMosaic

/-- 8.5 samples of offset per step come from the word 15. -/
theorem w15 : Ideal.ofBits .f32 0x41700000#32 = ((15 : ℝ) : EReal) := by
  simp [Ideal.ofBits, Ideal.ieee, -EReal.coe_mul]; norm_num
theorem w12 : Ideal.ofBits .f32 0x41400000#32 = ((12 : ℝ) : EReal) := by
  simp [Ideal.ofBits, Ideal.ieee, -EReal.coe_mul]; norm_num
theorem w16 : Ideal.ofBits .f32 0x41800000#32 = ((16 : ℝ) : EReal) := by
  simp [Ideal.ofBits, Ideal.ieee, -EReal.coe_mul]; norm_num
theorem wneg16 : Ideal.ofBits .f32 0xC1800000#32 = ((-16 : ℝ) : EReal) := by
  simp [Ideal.ofBits, Ideal.ieee, -EReal.coe_mul, -EReal.coe_neg]; norm_num
theorem w256 : Ideal.ofBits .f32 0x43800000#32 = ((256 : ℝ) : EReal) := by
  simp [Ideal.ofBits, Ideal.ieee, -EReal.coe_mul]; norm_num
theorem w512 : Ideal.ofBits .f32 0x44000000#32 = ((512 : ℝ) : EReal) := by
  simp [Ideal.ofBits, Ideal.ieee, -EReal.coe_mul]; norm_num
theorem w63 : Ideal.ofBits .f32 0x427C0000#32 = ((63 : ℝ) : EReal) := by
  simp [Ideal.ofBits, Ideal.ieee, -EReal.coe_mul]; norm_num
theorem w4096 : Ideal.ofBits .f32 0x45800000#32 = ((4096 : ℝ) : EReal) := by
  simp [Ideal.ofBits, Ideal.ieee, -EReal.coe_mul]; norm_num

/-- A word of a normal positive number is a quotient of naturals, by one equation of naturals. -/
theorem word_quotient (b : BitVec 32) (n : ℕ)
    (h : b.extractLsb' 31 1 = 0#1 ∧ (b.extractLsb' 23 8).toNat ≠ 255 ∧ (b.extractLsb' 23 8).toNat ≠ 0 ∧
      (2 ^ 23 + (b.extractLsb' 0 23).toNat) * 2 ^ (b.extractLsb' 23 8).toNat * 1024 = n * 2 ^ 150) :
    Ideal.ofBits .f32 b = (((n : ℝ) / 1024 : ℝ) : EReal) := by
  obtain ⟨h1, h2, h3, h4⟩ := h
  generalize he : (b.extractLsb' 23 8).toNat = e at *
  generalize hf : (b.extractLsb' 0 23).toNat = f at *
  have h4' : (2 ^ 23 + (f : ℝ)) * 2 ^ e * 1024 = n * 2 ^ 150 := by exact_mod_cast h4
  show Ideal.ieee 8 23 b = _
  unfold Ideal.ieee
  simp only [he, hf]
  rw [if_neg (by simpa using h2), if_neg h3]
  congr 1
  have h1' : (b.extractLsb' (8 + 23) 1 == 1#1) = false := by
    show (b.extractLsb' 31 1 == 1#1) = false
    rw [h1]; decide
  rw [h1']
  have hz : ((2:ℝ) ^ ((e : ℤ) - (2 ^ (8 - 1) - 1) - (23 : ℕ))) = 2 ^ e / 2 ^ 150 := by
    rw [show ((e : ℤ) - (2 ^ (8 - 1) - 1) - (23 : ℕ)) = (e : ℤ) - (150 : ℕ) by norm_num; ring]
    rw [zpow_sub₀ (by norm_num), zpow_natCast, zpow_natCast]
  rw [hz]
  have hp : (2:ℝ) ^ 150 ≠ 0 := by positivity
  push_cast
  field_simp
  linear_combination h4'

/-- A quotient of reals by a real that is not zero is the reals' quotient. -/
theorem div_real (a : ℝ) {b : ℝ} (hb : b ≠ 0) : Ideal.div (a : EReal) (b : EReal) = ((a / b : ℝ) : EReal) := by
  rw [Ideal.div_coe hb, ← EReal.coe_mul, mul_one_div]

/-- A small natural number as a signed word, read as a real. -/
theorem sitofp_nat {n : ℕ} (h : n < 2 ^ 31) :
    (FloatOps.sitofp .f32 (BitVec.ofNat 32 n) : Ideal .f32) = ((n : ℝ) : EReal) := by
  show (((BitVec.ofNat 32 n).toInt : ℝ) : EReal) = _
  have : (BitVec.ofNat 32 n).toInt = (n : ℤ) := by
    rw [BitVec.toInt_ofNat', Int.bmod_eq_of_le (by omega) (by omega)]
  rw [this]; norm_cast

/-- A nonnegative real of the signed range goes to its floor. -/
theorem fptosi_real {r : ℝ} (h0 : 0 ≤ r) {n : ℕ} (hn : (n : ℝ) ≤ r) (hn1 : r < n + 1) (h : n < 2 ^ 31) :
    (FloatOps.fptosi (F := Ideal) (φ := .f32) 32 (r : EReal)) = BitVec.ofNat 32 n := by
  show BitVec.ofInt 32 (Ideal.toIntClamped _ _ (r : EReal)) = _
  have hf : ⌊r⌋ = (n : ℤ) := by rw [Int.floor_eq_iff]; exact ⟨by exact_mod_cast hn, by exact_mod_cast hn1⟩
  rw [Ideal.toIntClamped_coe, if_pos h0, hf]
  rw [show max (-((2 ^ (32 - 1) : ℕ) : ℤ)) (min (((2 ^ (32 - 1) : ℕ) : ℤ) - 1) (n : ℤ)) = (n : ℤ) by omega]
  exact BitVec.ofInt_natCast 32 n

end Cert.Words

end
-- ==== Proof.Spec.lean ====
/- What one step of the sampled convolution computes, as plain sums over extended reals, when every
   step samples at the same 33 offsets. Both programs are read as this. -/
module

public import proofs.«01_k».proof.Proof.Words

@[expose] public section

noncomputable section

namespace Cert.Spec

open Idealize.ShloMosaic

/-- The sample's row counted from 136 rows before the sequence: step `l`, tap `s` (offset 8.5·(s − 16), rounded down). -/
def tap (l s : ℕ) : ℕ := l + 17 * s / 2

/-- The sample lies within the sequence. -/
def Inside (l s : ℕ) : Prop := 136 ≤ tap l s ∧ tap l s < 4232

instance (l s : ℕ) : Decidable (Inside l s) := by unfold Inside; infer_instance

/-- The weight of an inside sample is kept, of an outside one dropped. -/
def keep (l s : ℕ) : EReal := if Inside l s then 1 else 0

/-- The kernel cell below tap `s`. -/
def cell (s : ℕ) : ℕ := 63 * (17 * s + 240) / 1024

theorem cell_le {s : ℕ} (h : s < 33) : cell s ≤ 62 := by unfold cell; omega

/-- The weight of the cell above tap `s`. -/
def upper (s : ℕ) : EReal := ((((63 * (17 * s + 240) % 1024 : ℕ) : ℝ) / 1024 : ℝ) : EReal)

/-- The weight of the cell below tap `s`. -/
def lower (s : ℕ) : EReal := ((1 - ((63 * (17 * s + 240) % 1024 : ℕ) : ℝ) / 1024 : ℝ) : EReal)

/-- The activation `v · σ(v)`. -/
def silu (v : EReal) : EReal := v * Ideal.div 1 (1 + Ideal.exp (-v))

variable (x : Fin 4096 → Fin 768 → EReal) (wk : Fin 768 → Fin 768 → EReal) (b : Fin 768 → EReal)
  (wo : Fin 768 → Fin 768 → EReal)

/-- The kernel projection of step `l`. -/
def proj (l : Fin 4096) (c : Fin 768) : EReal := ∑ k, x l k * wk c k + b c

/-- Cell `k` of head `h`'s kernel at step `l`. -/
def cellAt (l : Fin 4096) (h : Fin 12) (k : Fin 64) : EReal := silu (proj x wk b l ⟨64 * h + k, by omega⟩)

/-- Head `h`'s kernel interpolated at tap `s`, outside samples dropped. -/
def masked (l : Fin 4096) (h : Fin 12) (s : Fin 33) : EReal :=
  (cellAt x wk b l h ⟨cell s, by have := cell_le s.2; omega⟩ * lower s +
    cellAt x wk b l h ⟨cell s + 1, by have := cell_le s.2; omega⟩ * upper s) * keep l s

/-- What the weights of head `h` at step `l` are divided by. -/
def total (l : Fin 4096) (h : Fin 12) : EReal := ∑ s, masked x wk b l h s + Ideal.ofBits .f32 0x322BCC77#32

/-- The weight of tap `s`. -/
def weight (l : Fin 4096) (h : Fin 12) (s : Fin 33) : EReal :=
  Ideal.div (masked x wk b l h s) (total x wk b l h)

/-- The input at a padded row: zero outside the sequence. -/
def padded (n : ℕ) (c : Fin 768) : EReal := if h : 136 ≤ n ∧ n < 4232 then x ⟨n - 136, by omega⟩ c else 0

/-- The head of channel `c`. -/
def head (c : Fin 768) : Fin 12 := ⟨c / 64, by omega⟩

/-- Channel `c` of the convolution at step `l`. -/
def conv (l : Fin 4096) (c : Fin 768) : EReal :=
  ∑ s : Fin 33, weight x wk b l (head c) s * padded x (tap l s) c

/-- The output projection and activation. -/
def out (l : Fin 4096) (c : Fin 768) : EReal := silu (∑ k, conv x wk b l k * wo c k)

end Cert.Spec

end
-- ==== Proof.Body.Value.lean ====
/- The block a grid point stores, read at one row and channel. -/
module

public import proofs.«01_k».proof.Proof.Body.Accum
public import proofs.«01_k».proof.Proof.Spec
public import Idealize.ShloMosaic.Lib.Tactic.CleanTypes

@[expose] public section

set_option maxRecDepth 16384

noncomputable section

namespace Cert.KernelIdeal.Body

open Cert.KernelIdeal Cert.KernelIdeal.Gen Idealize.ShloMosaic Idealize.ShloMosaic.TcCoe Idealize.SL.Sem

theorem slice_row (s : ℕ) (z : FVec Ideal S136x768 .f32) (r : Fin 128) (c : Fin 768) :
    extractStridedSlice S128x768 ![rest s, 0] z (slices_rest s) (ix2 r c) =
      z (ix2 ⟨rest s + r.val, by have : rest s < 8 := Nat.mod_lt _ (by norm_num); omega⟩ c) := by
  pointwise

/-- Row `r` of a tap's rows is the padded input's row of that sample. -/
theorem rows_apply (i : grid0.Coords) (x : FVec Ideal S4368x768 .f32) (s : ℕ) (hs : s < 33) (r : Fin 128) (c : Fin 768)
    (n : Fin 4368) (hn : n.val = 128 * (i 0).val + r + 17 * s / 2) : rows i x s hs (ix2 r c) = x (ix2 n c) := by
  have hb := base_le s hs
  have hsum : base s + rest s = 17 * s / 2 := by unfold base rest; omega
  unfold rows
  split
  · rename_i h
    refine (congrFun (shapeCast_self (s := S128x768) _ _) (ix2 r c)).trans ?_
    refine View.ld_unit_apply_of (Val := Elt Ideal) (e := .f32) (S := S4368x768) x _ S128x768.size _ (ix2 r c) (ix2 n c) fun a => ?_
    fin_cases a
    · refine hn.trans ?_
      refine Eq.trans ?_ (congrArg (· + r.val) (off_toNat i (base s) hb).symm)
      show _ = 128 * (i 0).val + base s + r.val
      omega
    · exact (Nat.zero_add c.val).symm
  · rename_i h
    have hr : rest s < 8 := Nat.mod_lt _ (by norm_num)
    refine Eq.trans (b := View.ld (Val := Elt Ideal) (e' := .f32) x
      (Rect.unit (s := S4368x768) (k0_off2 i (BitVec.ofNat 32 (base s))) S136x768.size (inb_shifted i s hs h))
      (ix2 (⟨rest s + r.val, by omega⟩ : Fin 136) c)) ?_ ?_
    · exact (slice_row s _ r c).trans (congrFun (shapeCast_self (s := S136x768) _ shapeCasts_S136x768_S136x768) _)
    refine View.ld_unit_apply_of (Val := Elt Ideal) (e := .f32) (S := S4368x768) x _ S136x768.size _ (ix2 (⟨rest s + r.val, by omega⟩ : Fin 136) c) (ix2 n c) fun a => ?_
    fin_cases a
    · refine hn.trans ?_
      refine Eq.trans ?_ (congrArg (· + (rest s + r.val)) (off_toNat i (base s) hb).symm)
      show _ = 128 * (i 0).val + base s + (rest s + r.val)
      omega
    · exact (Nat.zero_add c.val).symm

/-- The accumulator is the sum over the taps so far. -/
theorem accum_apply (i : grid0.Coords) (x : FVec Ideal S4368x768 .f32) (w : FVec Ideal S128x768 .f32) (r : Fin 128) (c : Fin 768)
    (n : ℕ) (h : n ≤ 33) : accum i x w n h (ix2 r c) =
      (∑ s : Fin n, w (ix2 r ⟨64 * (c.val / 64) + s, by omega⟩) * rows i x s (by omega) (ix2 r c) : EReal) := by
  induction n with
  | zero =>
    rw [Fin.sum_univ_zero]
    unfold accum k0_pay4
    pointwise
  | succ n ih =>
    unfold accum k0_pay3
    rw [tapStep_apply, ih, shapeCast_self, Fin.sum_univ_castSucc]
    rfl

/-- The output projection and activation. -/
theorem pay2_apply (a : FVec Ideal S128x768 .f32) (o : FVec Ideal S768x768 .f32) (r : Fin 128) (c : Fin 768) :
    (k0_pay2 (F := Ideal) a o (ix2 r c) : EReal) = Spec.silu (∑ k : Fin 768, (a (ix2 r k) * o (ix2 k c) : EReal)) := by
  unfold k0_pay2 Spec.silu
  pointwise
  rfl

end Cert.KernelIdeal.Body

end
-- ==== Proof.Body.Blocks.lean ====
/- The blocks a grid point of the kernel reads, and the block it stores, over the staged arrays. -/
module

public import proofs.«01_k».proof.Proof.Body.Value
public import Idealize.ShloMosaic.Lib.Pipeline.ValueKit

@[expose] public section

set_option maxRecDepth 16384

noncomputable section

namespace Cert.KernelIdeal.Body

open Cert.KernelIdeal Cert.KernelIdeal.Gen Idealize.ShloMosaic Idealize.ShloMosaic.TcCoe Idealize.SL.Sem

theorem idx0 : ∀ t : Fin cfg0.N, win0_0.index t = ![0, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![t.val, 0] := (by decide +kernel : ∀ t : Fin grid0.N, _)
theorem coord : ∀ t : Fin cfg0.N, (grid0.coords t 0).val = t.val := (by decide +kernel : ∀ t : Fin grid0.N, _)
theorem point_lt (t : Fin cfg0.N) : t.val < 32 := lt_of_lt_of_eq t.2 (by decide +kernel : grid0.N = 32)

variable (m : (ℓ : Loc nD τ sig) → Buf (Elt Ideal) ℓ) (c : Dev nD) (t : Fin cfg0.N)

/-- Every grid point reads the whole padded input … -/
theorem block0 (n : Fin 4368) (k : Fin 768) : (iblk m c 0 t : FVec Ideal S4368x768 .f32) (ix2 n k) =
    (V m c main_call1_v0 : FVec Ideal S4368x768 .f32) (ix2 n k) := by
  blk_ext [iblk, idx0 t]

/-- … the 128 rows of weights of its steps … -/
theorem block1 (r : Fin 128) (k : Fin 768) : (iblk m c 1 t : FVec Ideal S128x768 .f32) (ix2 r k) =
    (V m c main_v80 : FVec Ideal S4096x768 .f32) (ix2 ⟨128 * t.val + r.val, by have := point_lt t; omega⟩ k) := by
  have := point_lt t
  blk_ext [iblk, idx1 t]

/-- … and the whole output matrix. -/
theorem block2 (n : Fin 768) (k : Fin 768) : (iblk m c 2 t : FVec Ideal S768x768 .f32) (ix2 n k) =
    (V m c main_v82 : FVec Ideal S768x768 .f32) (ix2 n k) := by
  blk_ext [iblk, idx2 t]

/-- The staged input, entry by entry. -/
def xAt (n : Fin 4368) (k : Fin 768) : EReal := (V m c main_call1_v0 : FVec Ideal S4368x768 .f32) (ix2 n k)
/-- The staged weights. -/
def wAt (l : Fin 4096) (k : Fin 768) : EReal := (V m c main_v80 : FVec Ideal S4096x768 .f32) (ix2 l k)
/-- The staged output matrix. -/
def oAt (k a : Fin 768) : EReal := (V m c main_v82 : FVec Ideal S768x768 .f32) (ix2 k a)

/-- Row `r` of the block a grid point stores. -/
theorem stored_apply (l : Fin 4096) (r : Fin 128) (hl : l.val = 128 * t.val + r.val) (a : Fin 768) :
    (outsAt0 m c t : FVec Ideal S128x768 .f32) (ix2 r a) =
    Spec.silu (∑ k : Fin 768, (∑ s : Fin 33, wAt m c l ⟨64 * (k.val / 64) + s, by omega⟩ *
      xAt m c ⟨Spec.tap l s, by unfold Spec.tap; omega⟩ k) * oAt m c k a) := by
  have ht := point_lt t
  have e : (⟨128 * t.val + r.val, by omega⟩ : Fin 4096) = l := Fin.ext hl.symm
  rw [outsAt0_eq]
  refine (pay2_apply _ _ r a).trans (congrArg Spec.silu (Finset.sum_congr rfl fun k _ => ?_))
  refine congrArg₂ (fun p q : EReal => p * q) ?_ (block2 m c t k a)
  refine (accum_apply _ _ _ r k 33 (le_refl 33)).trans (Finset.sum_congr rfl fun s _ => ?_)
  refine congrArg₂ (fun p q : EReal => p * q) ((block1 m c t r _).trans ?_) ?_
  · rw [e]; rfl
  · refine (rows_apply _ _ s.val s.2 r k ⟨Spec.tap l s, by unfold Spec.tap; omega⟩ ?_).trans (block0 m c t _ k)
    show Spec.tap l s = _
    rw [coord, ← hl]
    rfl

end Cert.KernelIdeal.Body

end
-- ==== Proof.Host.Chunk.lean ====
/- The kernel's host part: one chunk of 2048 steps, as a function of its slice of the input and of the constant tables. -/
module

public import proofs.«01_k».proof.Proof.Gen.KernelIdeal.Frame.Runs
public import Idealize.ShloMosaic.PureOps.Ideal

@[expose] public section

set_option maxRecDepth 16384

noncomputable section

namespace Cert.KernelIdeal.HostPart

open Cert.KernelIdeal Cert.KernelIdeal.Gen Idealize.ShloMosaic Idealize.ShloMosaic.TcCoe Idealize.SL.Sem Idealize.ShloMosaic.StableHlo

/-- A chunk's kernel projection. -/
def projC (xs : FVec Ideal S1x2048x768 .f32) (wk : FVec Ideal S768x768 .f32) (b : FVec Ideal S768 .f32) :
    FVec Ideal S1x2048x768 .f32 :=
  addf (Host.dotGeneral dot_S1x2048x768_S768x768_S1x2048x768_2_0_01_1_n_n none xs
      (transpose S768x768 [1, 0] wk transposes_S768x768_S768x768_1_0))
    (broadcastInDim S1x2048x768 ![0, 1, 2] bcast_S1x1x768_S1x2048x768_0_1_2 (broadcastInDim S1x1x768 ![2] bcast_S768_S1x1x768_2 b))

/-- Its activation, head by head. -/
def cellsC (p : FVec Ideal S1x2048x768 .f32) : FVec Ideal S1x2048x12x64 .f32 :=
  shapeCast S1x2048x12x64 (mulf p (Host.divf (broadcastInDim S1x2048x768 ![] bcast_S_S1x2048x768 (constant S_ .f32 0x3F800000#32))
    (addf (broadcastInDim S1x2048x768 ![] bcast_S_S1x2048x768 (constant S_ .f32 0x3F800000#32)) (Host.exp (Host.negf p)))))
    shapeCasts_S1x2048x768_S1x2048x12x64

/-- The cells picked out by a table of zeros and ones. -/
def pickC (k : FVec Ideal S1x2048x12x64 .f32) (t : FVec Ideal S64x33 .f32) : FVec Ideal S1x2048x12x33 .f32 :=
  Host.reduceAdd (mulf
      (broadcastInDim S1x2048x12x64x33 ![0, 1, 2, 3, 4] bcast_S1x2048x12x64x1_S1x2048x12x64x33_0_1_2_3_4
        (broadcastInDim S1x2048x12x64x1 ![0, 1, 2, 3] bcast_S1x2048x12x64_S1x2048x12x64x1_0_1_2_3 k))
      (broadcastInDim S1x2048x12x64x33 ![0, 1, 2, 3, 4] bcast_S1x1x1x64x33_S1x2048x12x64x33_0_1_2_3_4
        (broadcastInDim S1x1x1x64x33 ![3, 4] bcast_S64x33_S1x1x1x64x33_3_4 t)))
    (constant S_ .f32 0x00000000#32) reducesTo_S1x2048x12x64x33_S1x2048x12x33_d3 h_S_

/-- The masked interpolation of the picked cells. -/
def maskC (f g : FVec Ideal S1x2048x12x33 .f32) (wf wc : FVec Ideal S1x1x1x33 .f32) (mk : FVec Ideal S1x2048x1x33 .f32) :
    FVec Ideal S1x2048x12x33 .f32 :=
  mulf (addf
      (mulf f (broadcastInDim S1x2048x12x33 ![0, 1, 2, 3] bcast_S1x1x1x33_S1x2048x12x33_0_1_2_3 wf))
      (mulf g (broadcastInDim S1x2048x12x33 ![0, 1, 2, 3] bcast_S1x1x1x33_S1x2048x12x33_0_1_2_3 wc)))
    (broadcastInDim S1x2048x12x33 ![0, 1, 2, 3] bcast_S1x2048x1x33_S1x2048x12x33_0_1_2_3 mk)

/-- The weights: each masked value over the sum of its head's. -/
def weightC (w : FVec Ideal S1x2048x12x33 .f32) : FVec Ideal S1x2048x12x33 .f32 :=
  Host.divf w (broadcastInDim S1x2048x12x33 ![0, 1, 2, 3] bcast_S1x2048x12x1_S1x2048x12x33_0_1_2_3
    (addf (broadcastInDim S1x2048x12x1 ![0, 1, 2] bcast_S1x2048x12_S1x2048x12x1_0_1_2
        (Host.reduceAdd w (constant S_ .f32 0x00000000#32) reducesTo_S1x2048x12x33_S1x2048x12_d3 h_S_))
      (broadcastInDim S1x2048x12x1 ![] bcast_S_S1x2048x12x1 (constant S_ .f32 0x322BCC77#32))))

/-- The two tables that pick the lower and the upper cells. -/
def pf : FVec Ideal S64x33 .f32 := fun i => FloatOps.ofBits .f32 (lit0 (S64x33.rowMajor i))
def pc : FVec Ideal S64x33 .f32 := fun i => FloatOps.ofBits .f32 (lit1 (S64x33.rowMajor i))
/-- The weights of the lower and of the upper cells. -/
def wf : FVec Ideal S1x1x1x33 .f32 := fun i => FloatOps.ofBits .f32 (lit2 (S1x1x1x33.rowMajor i))
def wc : FVec Ideal S1x1x1x33 .f32 := fun i => FloatOps.ofBits .f32 (lit3 (S1x1x1x33.rowMajor i))
/-- The masks of the first and of the second chunk. -/
def mk0 : FVec Ideal S1x2048x1x33 .f32 := fun i => FloatOps.ofBits .f32 (lit4 (S1x2048x1x33.rowMajor i))
def mk1 : FVec Ideal S1x2048x1x33 .f32 := fun i => FloatOps.ofBits .f32 (lit5 (S1x2048x1x33.rowMajor i))

/-- One chunk's weights. -/
def chunkC (xs : FVec Ideal S1x2048x768 .f32) (wk : FVec Ideal S768x768 .f32) (b : FVec Ideal S768 .f32)
    (mk : FVec Ideal S1x2048x1x33 .f32) : FVec Ideal S1x2048x12x33 .f32 :=
  weightC (maskC (pickC (cellsC (projC xs wk b)) pf) (pickC (cellsC (projC xs wk b)) pc) wf wc mk)

end Cert.KernelIdeal.HostPart

end
-- ==== Proof.Host.Read.lean ====
/- One chunk of the kernel's host part, read at one step, head and tap. -/
module

public import proofs.«01_k».proof.Proof.Host.Chunk
public import proofs.«01_k».proof.Proof.Spec
public import Idealize.ShloMosaic.Lib.Pointwise
public import Idealize.ShloMosaic.Lib.Tactic.CleanTypes

@[expose] public section

set_option maxRecDepth 16384

noncomputable section

namespace Cert.KernelIdeal.HostPart

open Cert.KernelIdeal Cert.KernelIdeal.Gen Idealize.ShloMosaic

theorem projC_apply (xs : FVec Ideal S1x2048x768 .f32) (wk : FVec Ideal S768x768 .f32) (b : FVec Ideal S768 .f32)
    (r : Fin 2048) (c : Fin 768) :
    projC xs wk b (ix3 0 r c) = (∑ k : Fin 768, xs (ix3 0 r k) * wk (ix2 c k) + b (ix1 c) : EReal) := by
  unfold projC
  pointwise

theorem cellsC_apply (p : FVec Ideal S1x2048x768 .f32) (r : Fin 2048) (g : Fin 12) (k : Fin 64) :
    cellsC p (ix4 0 r g k) = Spec.silu (p (ix3 0 r ⟨64 * g + k, by omega⟩)) := by
  unfold cellsC Spec.silu
  pointwise
  simp only [Nat.mul_comm 64]

theorem pickC_apply (k : FVec Ideal S1x2048x12x64 .f32) (t : FVec Ideal S64x33 .f32) (r : Fin 2048) (g : Fin 12) (s : Fin 33) :
    pickC k t (ix4 0 r g s) = (∑ j : Fin 64, k (ix4 0 r g j) * t (ix2 j s) : EReal) := by
  unfold pickC
  pointwise

theorem maskC_apply (f g : FVec Ideal S1x2048x12x33 .f32) (wf wc : FVec Ideal S1x1x1x33 .f32) (mk : FVec Ideal S1x2048x1x33 .f32)
    (r : Fin 2048) (h : Fin 12) (s : Fin 33) :
    maskC f g wf wc mk (ix4 0 r h s) = ((f (ix4 0 r h s) * wf (ix4 0 0 0 s) + g (ix4 0 r h s) * wc (ix4 0 0 0 s)) *
      mk (ix4 0 r 0 s) : EReal) := by
  unfold maskC
  pointwise

theorem weightC_apply (w : FVec Ideal S1x2048x12x33 .f32) (r : Fin 2048) (h : Fin 12) (s : Fin 33) :
    weightC w (ix4 0 r h s) = Ideal.div (w (ix4 0 r h s)) (∑ j : Fin 33, (w (ix4 0 r h j) : EReal) + Ideal.ofBits .f32 0x322BCC77#32) := by
  unfold weightC
  pointwise

end Cert.KernelIdeal.HostPart

end
-- ==== Proof.Host.Tables.lean ====
/- The kernel's tables of cells and of their weights, entry by entry. -/
module

public import proofs.«01_k».proof.Proof.Host.Chunk
public import proofs.«01_k».proof.Proof.Spec
public import Idealize.ShloMosaic.Lib.Pointwise

@[expose] public section

set_option maxRecDepth 16384

noncomputable section

namespace Cert.KernelIdeal.HostPart

open Cert.KernelIdeal Cert.KernelIdeal.Gen Idealize.ShloMosaic

/-- The first table has a one where the row is the tap's lower cell. -/
theorem lit0_words : ∀ k : Fin 64, ∀ s : Fin 33,
    lit0t (k * 33 + s) = if k.val = Spec.cell s then 0x3F800000#32 else 0#32 := by
  decide +kernel

/-- The second table has a one where the row is the tap's upper cell. -/
theorem lit1_words : ∀ k : Fin 64, ∀ s : Fin 33,
    lit1t (k * 33 + s) = if k.val = Spec.cell s + 1 then 0x3F800000#32 else 0#32 := by
  decide +kernel

/-- A word of the one-or-zero tables. -/
theorem bit_word (p : Prop) [Decidable p] :
    Ideal.ofBits .f32 (if p then 0x3F800000#32 else 0#32) = if p then (1 : EReal) else 0 := by
  split <;> simp

theorem pf_apply (k : Fin 64) (s : Fin 33) : pf (ix2 k s) = if k.val = Spec.cell s then (1 : EReal) else 0 := by
  show Ideal.ofBits .f32 (lit0t (S64x33.rowMajor (ix2 k s)).val) = _
  rw [rowMajor_val2 (ix2 k s) 33 rfl]
  exact (congrArg (Ideal.ofBits .f32) (lit0_words k s)).trans (bit_word _)

theorem pc_apply (k : Fin 64) (s : Fin 33) : pc (ix2 k s) = if k.val = Spec.cell s + 1 then (1 : EReal) else 0 := by
  show Ideal.ofBits .f32 (lit1t (S64x33.rowMajor (ix2 k s)).val) = _
  rw [rowMajor_val2 (ix2 k s) 33 rfl]
  exact (congrArg (Ideal.ofBits .f32) (lit1_words k s)).trans (bit_word _)

/-- The words of the upper weights, as whole numbers of 1024ths. -/
theorem lit3_words : ∀ s : Fin 33, (lit3 s).extractLsb' 31 1 = 0#1 ∧ ((lit3 s).extractLsb' 23 8).toNat ≠ 255 ∧
    ((lit3 s).extractLsb' 23 8).toNat ≠ 0 ∧
    (2 ^ 23 + ((lit3 s).extractLsb' 0 23).toNat) * 2 ^ ((lit3 s).extractLsb' 23 8).toNat * 1024 =
      (63 * (17 * s + 240) % 1024) * 2 ^ 150 := by
  decide +kernel

/-- The words of the lower weights, as whole numbers of 1024ths. -/
theorem lit2_words : ∀ s : Fin 33, (lit2 s).extractLsb' 31 1 = 0#1 ∧ ((lit2 s).extractLsb' 23 8).toNat ≠ 255 ∧
    ((lit2 s).extractLsb' 23 8).toNat ≠ 0 ∧
    (2 ^ 23 + ((lit2 s).extractLsb' 0 23).toNat) * 2 ^ ((lit2 s).extractLsb' 23 8).toNat * 1024 =
      (1024 - 63 * (17 * s + 240) % 1024) * 2 ^ 150 := by
  decide +kernel

theorem row33 (s : Fin 33) : S1x1x1x33.rowMajor (ix4 0 0 0 s) = s :=
  Fin.ext ((rowMajor_val4 (ix4 0 0 0 s : S1x1x1x33.Idx) 33 33 33 rfl rfl rfl).trans (by simp))

theorem wc_apply (s : Fin 33) : wc (ix4 0 0 0 s) = Spec.upper s := by
  show Ideal.ofBits .f32 (lit3 (S1x1x1x33.rowMajor (ix4 0 0 0 s))) = _
  rw [row33]
  exact Words.word_quotient _ _ (lit3_words s)

theorem wf_apply (s : Fin 33) : wf (ix4 0 0 0 s) = Spec.lower s := by
  show Ideal.ofBits .f32 (lit2 (S1x1x1x33.rowMajor (ix4 0 0 0 s))) = _
  rw [row33, Words.word_quotient _ _ (lit2_words s)]
  unfold Spec.lower
  congr 1
  rw [Nat.cast_sub (Nat.mod_lt _ (by norm_num)).le]
  push_cast
  ring

end Cert.KernelIdeal.HostPart

end
-- ==== Proof.Host.Value.lean ====
/- One chunk of the kernel's host part computes the weights of its steps. -/
module

public import proofs.«01_k».proof.Proof.Host.Read
public import proofs.«01_k».proof.Proof.Host.Tables

@[expose] public section

set_option maxRecDepth 16384

noncomputable section

namespace Cert.KernelIdeal.HostPart

open Cert.KernelIdeal Cert.KernelIdeal.Gen Idealize.ShloMosaic

/-- A sum against a column with a single one picks that entry. -/
theorem sum_pick {n : ℕ} (f : Fin n → EReal) (i : ℕ) (h : i < n) :
    ∑ j : Fin n, f j * (if j.val = i then (1 : EReal) else 0) = f ⟨i, h⟩ := by
  rw [Finset.sum_eq_single ⟨i, h⟩]
  · rw [if_pos rfl, mul_one]
  · intro j _ hj
    rw [if_neg (fun e => hj (Fin.ext e)), mul_zero]
  · intro hn; exact absurd (Finset.mem_univ _) hn

variable (x : Fin 4096 → Fin 768 → EReal) (xs : FVec Ideal S1x2048x768 .f32) (wk : FVec Ideal S768x768 .f32)
  (b : FVec Ideal S768 .f32) (mk : FVec Ideal S1x2048x1x33 .f32) (r : Fin 2048) (l : Fin 4096)

theorem cells_value (hx : ∀ k, xs (ix3 0 r k) = x l k) (g : Fin 12) (k : Fin 64) :
    cellsC (projC xs wk b) (ix4 0 r g k) = Spec.cellAt x (fun c k => wk (ix2 c k)) (fun c => b (ix1 c)) l g k := by
  rw [cellsC_apply, projC_apply]
  simp only [hx]
  rfl

theorem mask_value (hx : ∀ k, xs (ix3 0 r k) = x l k) (hm : ∀ s : Fin 33, mk (ix4 0 r 0 s) = Spec.keep l s) (g : Fin 12) (s : Fin 33) :
    maskC (pickC (cellsC (projC xs wk b)) pf) (pickC (cellsC (projC xs wk b)) pc) wf wc mk (ix4 0 r g s) =
      Spec.masked x (fun c k => wk (ix2 c k)) (fun c => b (ix1 c)) l g s := by
  have hs := Spec.cell_le s.2
  rw [maskC_apply, pickC_apply, pickC_apply, wf_apply, wc_apply, hm]
  simp only [pf_apply, pc_apply, cells_value x xs wk b r l hx]
  rw [sum_pick _ _ (by omega), sum_pick _ _ (by omega)]
  rfl

/-- A chunk's weight at its row `r` is the weight at step `l`, once its input and mask rows are those of step `l`. -/
theorem chunk_value (hx : ∀ k, xs (ix3 0 r k) = x l k) (hm : ∀ s : Fin 33, mk (ix4 0 r 0 s) = Spec.keep l s) (g : Fin 12) (s : Fin 33) :
    chunkC xs wk b mk (ix4 0 r g s) = Spec.weight x (fun c k => wk (ix2 c k)) (fun c => b (ix1 c)) l g s := by
  unfold chunkC
  rw [weightC_apply]
  simp only [mask_value x xs wk b mk r l hx hm]
  rfl

end Cert.KernelIdeal.HostPart

end
-- ==== Proof.Host.Staged.lean ====
/- The other two arrays the kernel's launch stages: the padded input and the output matrix. -/
module

public import proofs.«01_k».proof.Proof.Host.Chunk
public import Idealize.ShloMosaic.Lib.StableHlo.RunRead

@[expose] public section

set_option maxRecDepth 16384

noncomputable section

namespace Cert.KernelIdeal.HostPart

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ)

/-- The staged output matrix is the argument, transposed. -/
theorem V_v82 (c : Dev nD) : (V m c main_v82 : FVec Ideal S768x768 .f32) =
    transpose S768x768 [1, 0] (m ((c : Thread nD τ).loc main_arg5) : FVec Ideal S768x768 .f32) transposes_S768x768_S768x768_1_0 := by
  simp only [V]
  after_reads_simp

/-- The staged input is the argument with 136 rows of zeros on either side. -/
theorem V_xpad (c : Dev nD) : (V m c main_call1_v0 : FVec Ideal S4368x768 .f32) =
    pad (α := EReal) S4368x768 ![136, 0] ![136, 0] ![0, 0]
      (shapeCast S4096x768 (m ((c : Thread nD τ).loc main_arg0) : FVec Ideal S1x4096x768 .f32) shapeCasts_S1x4096x768_S4096x768 :
        FVec Ideal S4096x768 .f32)
      (sitofp (F := Ideal) .f32 (constantI S_ 32 0#32)) pads_S4096x768_S4368x768_1361360_000 h_S_ := by
  simp only [V]
  after_reads_simp
  rfl

end Cert.KernelIdeal.HostPart

end
-- ==== Proof.Host.Weights.lean ====
/- The weights the kernel's launch stages: the two chunks, padded to 64 lanes a head, as a matrix. -/
module

public import proofs.«01_k».proof.Proof.Host.Chunk
public import Idealize.ShloMosaic.Lib.StableHlo.RunRead

@[expose] public section

set_option maxRecDepth 16384

noncomputable section

namespace Cert.KernelIdeal.HostPart

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ)

set_option maxHeartbeats 4000000 in
/-- The staged weights are the two chunks' weights, one after the other. -/
theorem V_v80 (c : Dev nD) : (V m c main_v80 : FVec Ideal S4096x768 .f32) =
    shapeCast S4096x768 (pad S1x4096x12x64 ![0, 0, 0, 0] ![0, 0, 0, 31] ![0, 0, 0, 0]
      (concatenate S1x4096x12x33 1
        [⟨S1x2048x12x33, chunkC (extractStridedSlice S1x2048x768 ![0, 0, 0] (m ((c : Thread nD τ).loc main_arg0) : FVec Ideal S1x4096x768 .f32)
            slices_S1x4096x768_S1x2048x768_0_0_0) (m ((c : Thread nD τ).loc main_arg3)) (m ((c : Thread nD τ).loc main_arg4)) mk0⟩,
         ⟨S1x2048x12x33, chunkC (extractStridedSlice S1x2048x768 ![0, 2048, 0] (m ((c : Thread nD τ).loc main_arg0) : FVec Ideal S1x4096x768 .f32)
            slices_S1x4096x768_S1x2048x768_0_2048_0) (m ((c : Thread nD τ).loc main_arg3)) (m ((c : Thread nD τ).loc main_arg4)) mk1⟩]
        concatenates_S1x2048x12x33_S1x2048x12x33_S1x4096x12x33_d1)
      (sitofp (F := Ideal) .f32 (constantI S_ 32 0#32)) pads_S1x4096x12x33_S1x4096x12x64_000_000_000_0310 h_S_)
      shapeCasts_S1x4096x12x64_S4096x768 := by
  simp only [V]
  after_reads_simp
  rfl

end Cert.KernelIdeal.HostPart

end
-- ==== Proof.Host.Mask0.lean ====
/- The first half's table of inside samples, entry by entry. -/
module

public import proofs.«01_k».proof.Proof.Host.Chunk
public import proofs.«01_k».proof.Proof.Spec

@[expose] public section

set_option maxRecDepth 16384

noncomputable section

namespace Cert.KernelIdeal.HostPart

open Cert.KernelIdeal

set_option maxHeartbeats 8000000 in
/-- The table's rows, 128 at a time: one where the sample is inside the sequence, zero elsewhere. -/
theorem lit4_words : ∀ q : Fin 16, ∀ r : Fin 128, ∀ s : Fin 33,
    lit4t ((128 * q + r) * 33 + s) =
      if Spec.Inside (128 * q + r) s then 0x3F800000#32 else 0#32 := by
  intro q
  fin_cases q <;> decide +kernel

end Cert.KernelIdeal.HostPart

end
-- ==== Proof.Host.Mask1.lean ====
/- The second half's table of inside samples, entry by entry. -/
module

public import proofs.«01_k».proof.Proof.Host.Chunk
public import proofs.«01_k».proof.Proof.Spec

@[expose] public section

set_option maxRecDepth 16384

noncomputable section

namespace Cert.KernelIdeal.HostPart

open Cert.KernelIdeal

set_option maxHeartbeats 8000000 in
/-- The table's rows, 128 at a time: one where the sample is inside the sequence, zero elsewhere. -/
theorem lit5_words : ∀ q : Fin 16, ∀ r : Fin 128, ∀ s : Fin 33,
    lit5t ((128 * q + r) * 33 + s) =
      if Spec.Inside (2048 + 128 * q + r) s then 0x3F800000#32 else 0#32 := by
  intro q
  fin_cases q <;> decide +kernel

end Cert.KernelIdeal.HostPart

end
-- ==== Proof.Host.Launch.lean ====
/- The three arrays the kernel's launch stages, entry by entry. -/
module

public import proofs.«01_k».proof.Proof.Host.Value
public import proofs.«01_k».proof.Proof.Host.Staged
public import proofs.«01_k».proof.Proof.Host.Weights
public import proofs.«01_k».proof.Proof.Host.Mask0
public import proofs.«01_k».proof.Proof.Host.Mask1

@[expose] public section

set_option maxRecDepth 16384

noncomputable section

namespace Cert.KernelIdeal.HostPart

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (c : Dev nD)

/-- The input. -/
def xOf (l : Fin 4096) (k : Fin 768) : EReal := (m ((c : Thread nD τ).loc main_arg0) : FVec Ideal S1x4096x768 .f32) (ix3 0 l k)
/-- The kernel projection's matrix. -/
def wkOf (a b : Fin 768) : EReal := (m ((c : Thread nD τ).loc main_arg3) : FVec Ideal S768x768 .f32) (ix2 a b)
/-- Its bias. -/
def bOf (a : Fin 768) : EReal := (m ((c : Thread nD τ).loc main_arg4) : FVec Ideal S768 .f32) (ix1 a)
/-- The output matrix. -/
def woOf (a b : Fin 768) : EReal := (m ((c : Thread nD τ).loc main_arg5) : FVec Ideal S768x768 .f32) (ix2 a b)

/-- Where a mask table keeps step `r`, tap `s`. -/
theorem mask_row (r : Fin 2048) (s : Fin 33) : (S1x2048x1x33.rowMajor (ix4 0 r 0 s)).val = r * 33 + s :=
  (rowMajor_val4 (ix4 0 r 0 s : S1x2048x1x33.Idx) 67584 33 33 rfl rfl rfl).trans (by simp)

/-- The first chunk's mask. -/
theorem mk0_apply (r : Fin 2048) (s : Fin 33) : mk0 (ix4 0 r 0 s) = Spec.keep r s := by
  show Ideal.ofBits .f32 (lit4t (S1x2048x1x33.rowMajor (ix4 0 r 0 s)).val) = _
  have h := lit4_words ⟨r / 128, by omega⟩ ⟨r % 128, by omega⟩ s
  have e : 128 * (r.val / 128) + r.val % 128 = r.val := Nat.div_add_mod _ _
  simp only [e] at h
  rw [mask_row, h]
  exact bit_word _

/-- The second chunk's mask. -/
theorem mk1_apply (r : Fin 2048) (s : Fin 33) : mk1 (ix4 0 r 0 s) = Spec.keep (2048 + r) s := by
  show Ideal.ofBits .f32 (lit5t (S1x2048x1x33.rowMajor (ix4 0 r 0 s)).val) = _
  have h := lit5_words ⟨r / 128, by omega⟩ ⟨r % 128, by omega⟩ s
  have e : 128 * (r.val / 128) + r.val % 128 = r.val := Nat.div_add_mod _ _
  simp only [Nat.add_assoc, e] at h
  rw [mask_row, h]
  exact bit_word _

/-- The staged output matrix. -/
theorem v82_apply (k a : Fin 768) : (V m c main_v82 : FVec Ideal S768x768 .f32) (ix2 k a) = woOf m c a k := by
  rw [V_v82]
  pointwise
  rfl

/-- 136 rows of zeros on either side of a sequence. -/
theorem pad_rows (z : FVec Ideal S1x4096x768 .f32) (n : Fin 4368) (k : Fin 768) :
    pad (α := EReal) S4368x768 ![136, 0] ![136, 0] ![0, 0] (shapeCast S4096x768 z shapeCasts_S1x4096x768_S4096x768)
      (sitofp (F := Ideal) .f32 (constantI S_ 32 0#32)) pads_S4096x768_S4368x768_1361360_000 h_S_ (ix2 n k) =
    if h : 136 ≤ n.val ∧ n.val < 4232 then z (ix3 0 ⟨n - 136, by omega⟩ k) else (0 : EReal) := by
  pointwise
  have h0 : (FloatOps.sitofp .f32 (0#32) : Ideal .f32) = (0 : EReal) := by
    show (((0#32 : BitVec 32).toInt : ℝ) : EReal) = 0
    simp
  by_cases h : 136 ≤ n.val ∧ n.val < 4232
  · rw [dif_pos h, dif_pos (by omega)]
  · rw [dif_neg h, dif_neg (by omega)]
    exact h0

/-- The staged input: zero outside the sequence. -/
theorem xpad_apply (n : Fin 4368) (k : Fin 768) :
    (V m c main_call1_v0 : FVec Ideal S4368x768 .f32) (ix2 n k) = Spec.padded (xOf m c) n k := by
  rw [V_xpad, pad_rows]
  rfl

/-- The staged weights, 64 lanes a head: lane `s` is tap `s`. -/
theorem v80_apply (l : Fin 4096) (g : Fin 12) (s : Fin 33) :
    (V m c main_v80 : FVec Ideal S4096x768 .f32) (ix2 l ⟨64 * g + s, by omega⟩) =
      Spec.weight (xOf m c) (wkOf m c) (bOf m c) l g s := by
  rw [V_v80]
  pointwise
  have hs : (64 * g.val + s.val) % 64 = s.val := by omega
  have e : (⟨(64 * g.val + s.val) % 64, by omega⟩ : Fin 33) = s := Fin.ext hs
  rw [dif_pos (by omega)]
  split
  · rename_i h
    rw [e]
    refine chunk_value (xOf m c) _ _ _ _ ⟨l, h⟩ l (fun k => ?_) (fun s => mk0_apply _ s) g s
    pointwise
    rfl
  · rename_i h
    rw [e]
    refine chunk_value (xOf m c) _ _ _ _ ⟨l - 2048, by omega⟩ l (fun k => ?_) (fun s => ?_) g s
    · pointwise
      exact congrArg (fun l' => xOf m c l' k) (Fin.ext (show 2048 + (l.val - 2048) = l.val by omega))
    · rw [mk1_apply]
      congr 1
      show 2048 + (l.val - 2048) = l.val
      omega

end Cert.KernelIdeal.HostPart

end
-- ==== Proof.Body.Final.lean ====
/- The kernel's result, entry by entry. -/
module

public import proofs.«01_k».proof.Proof.Body.Blocks
public import proofs.«01_k».proof.Proof.Host.Launch

@[expose] public section

set_option maxRecDepth 16384

noncomputable section

namespace Cert.KernelIdeal.Body

open Cert.KernelIdeal Cert.KernelIdeal.Gen Idealize.ShloMosaic Idealize.ShloMosaic.TcCoe Idealize.SL.Sem
open Cert.KernelIdeal.HostPart (xOf wkOf bOf woOf v80_apply xpad_apply v82_apply)

variable (m : (ℓ : Loc nD τ sig) → Buf (Elt Ideal) ℓ) (c : Dev nD)

/-- A grid point's block holds the outputs of its 128 steps. -/
theorem stored_value (t : Fin cfg0.N) (l : Fin 4096) (r : Fin 128) (hl : l.val = 128 * t.val + r.val) (a : Fin 768) :
    (outsAt0 m c t : FVec Ideal S128x768 .f32) (ix2 r a) = Spec.out (xOf m c) (wkOf m c) (bOf m c) (woOf m c) l a := by
  refine (stored_apply m c t l r hl a).trans (congrArg Spec.silu (Finset.sum_congr rfl fun k _ => ?_))
  refine congrArg₂ (fun p q : EReal => p * q) (Finset.sum_congr rfl fun s _ => ?_) (v82_apply m c k a)
  exact congrArg₂ (fun p q : EReal => p * q) (v80_apply m c l (Spec.head k) s) (xpad_apply m c _ k)

/-- The result array. -/
def result : FVec Ideal S4096x768 .f32 :=
  fun i => Spec.out (xOf m c) (wkOf m c) (bOf m c) (woOf m c) (i 0) (i 1)

/-- The blocks, written one after the other, make up the result. -/
theorem final : (dats m 0 c).arrAt 3 cfg0.N = result m c := by
  refine (dats m 0 c).arrAt_eq_of_covers 3 _ (by decide +kernel) fun t _ y => ?_
  blk_simp
  rw [after0_3]
  have ht := point_lt t
  have hy : y = (ix2 (y 0) (y 1) : S128x768.Idx) := by
    funext a; fin_cases a <;> rfl
  have e0 : ((win0_3.blk t).view.emb y 0 : ℕ) = 128 * t.val + (y 0).val := by
    blk_simp [idx3 t]
    exact congrArg (· + (y 0).val) (Nat.mul_comm _ _)
  have e1 : (y 1 : Fin 768) = (win0_3.blk t).view.emb y 1 := Fin.ext (by blk_simp [idx3 t])
  refine (congrArg (outsAt0 m c t) hy).trans ((stored_value m c t ((win0_3.blk t).view.emb y 0) (y 0) e0 (y 1)).trans ?_)
  exact congrArg (Spec.out (xOf m c) (wkOf m c) (bOf m c) (woOf m c) ((win0_3.blk t).view.emb y 0)) e1

end Cert.KernelIdeal.Body

end
-- ==== Proof.Ref.Wave.lean ====
/- The reference's sampling pattern when the wave projection is zero: one frequency and one phase for all. -/
module

public import proofs.«01_k».proof.Proof.Gen.ReferenceIdeal.Run
public import proofs.«01_k».proof.Proof.Words
public import Idealize.ShloMosaic.Lib.Pointwise
public import Idealize.ShloMosaic.Lib.Tactic.CleanTypes

@[expose] public section

set_option maxRecDepth 16384

noncomputable section

namespace Cert.ReferenceIdeal.Value

open Cert.ReferenceIdeal Cert.ReferenceIdeal.Gen Idealize.ShloMosaic Idealize.ShloMosaic.TcCoe Idealize.SL.Sem Idealize.ShloMosaic.StableHlo

variable (V0 : Valuation τ sig (Elt Ideal))

/-- The wave projection is zero. -/
def ZeroWave : Prop :=
  (∀ a b, (V0 (Proc.devRef .tc main_arg1) : FVec Ideal S24x768 .f32) (ix2 a b) = (0 : EReal)) ∧
  (∀ a, (V0 (Proc.devRef .tc main_arg2) : FVec Ideal S24 .f32) (ix1 a) = (0 : EReal))

theorem v7_apply (h : ZeroWave V0) (i : Fin 4096) (j : Fin 24) :
    (res_main_v7 V0 : FVec Ideal S1x4096x24 .f32) (ix3 0 i j) = (0 : EReal) := by
  unfold res_main_v7
  pointwise
  simp [h.1, h.2]

theorem v15_apply (h : ZeroWave V0) (i : Fin 4096) (j : Fin 2) (k : Fin 12) :
    (res_main_v15 V0 : FVec Ideal S1x4096x2x12 .f32) (ix4 0 i j k) = (0 : EReal) := by
  unfold res_main_v15
  pointwise
  simp [v7_apply V0 h]

/-- Every step's frequency is half of 1 + 16, the sigmoid of zero being a half. -/
theorem v35_apply (h : ZeroWave V0) (i : Fin 4096) :
    (res_main_v35 V0 : FVec Ideal S1x4096 .f32) (ix2 0 i) = (((17/2 : ℝ)) : EReal) := by
  unfold res_main_v35
  pointwise
  simp [v15_apply V0 h]
  rw [Words.w15, Words.w12]
  have h2 : Ideal.div 1 (1 + Ideal.exp 0) = ((1/2 : ℝ) : EReal) := by
    have he : Ideal.exp 0 = ((1 : ℝ) : EReal) := by
      rw [← EReal.coe_zero, Ideal.exp_coe, Real.exp_zero]
    rw [he, ← EReal.coe_one, ← EReal.coe_add, Words.div_real _ (by norm_num)]
    norm_num
  rw [h2, show (12 : EReal) = ((12 : ℝ) : EReal) from rfl, ← EReal.coe_mul, ← EReal.coe_mul, ← EReal.coe_add,
    Words.div_real _ (by norm_num)]
  norm_num

/-- Every step's phase is zero. -/
theorem v38_apply (h : ZeroWave V0) (i : Fin 4096) :
    (res_main_v38 V0 : FVec Ideal S1x4096 .f32) (ix2 0 i) = (0 : EReal) := by
  unfold res_main_v38
  pointwise
  simp [v15_apply V0 h]
  have he : Ideal.tanh 0 = 0 := by
    rw [← EReal.coe_zero, Ideal.tanh_coe, Real.tanh_zero]
  rw [Words.w12, he, zero_mul, mul_zero, Ideal.zero_div (by norm_num)]

/-- The offset of tap `s` before it is scaled: `s - 16`. -/
theorem v40_apply (s : Fin 33) :
    (res_main_v40 V0 : FVec Ideal S1x1x33 .f32) (ix3 0 0 s) = (((s : ℝ) - 16 : ℝ) : EReal) := by
  unfold res_main_v40
  pointwise
  rw [Words.sitofp_nat (by omega)]
  simp [-EReal.coe_sub]
  rw [Words.wneg16]
  refine (EReal.coe_add _ _).symm.trans (congrArg _ ?_)
  ring

/-- The sampled position of tap `s` at step `l`. -/
theorem v50_apply (h : ZeroWave V0) (l : Fin 4096) (s : Fin 33) :
    (res_main_v50 V0 : FVec Ideal S1x4096x33 .f32) (ix3 0 l s) =
      (((l : ℝ) + ((s : ℝ) - 16) * (17/2) : ℝ) : EReal) := by
  unfold res_main_v50
  pointwise
  simp [v35_apply V0 h, v38_apply V0 h, v40_apply]
  rw [Words.sitofp_nat (by omega)]
  norm_cast

/-- The position of tap `s` within the row of kernel cells, scaled to `[0, 63]`. -/
theorem v103_apply (h : ZeroWave V0) (l : Fin 4096) (s : Fin 33) :
    (res_main_v103 V0 : FVec Ideal S1x4096x33 .f32) (ix3 0 l s) =
      ((63 * (17 * (s : ℝ) + 240) / 1024 : ℝ) : EReal) := by
  unfold res_main_v103
  pointwise
  simp [v35_apply V0 h, v38_apply V0 h, v40_apply, -EReal.coe_sub, -EReal.coe_mul]
  rw [constant_apply, constant_apply, Words.w256, Words.w512, Words.w63]
  have h1 : (FloatOps.ofBits .f32 1065353216#32 : Ideal .f32) = ((1 : ℝ) : EReal) := by simp
  have h0 : (FloatOps.ofBits .f32 0#32 : Ideal .f32) = ((0 : ℝ) : EReal) := by simp
  rw [h1, h0, ← EReal.coe_mul, ← EReal.coe_add, Words.div_real _ (by norm_num)]
  have hs : (s : ℝ) ≤ 32 := by exact_mod_cast (by omega : s.val ≤ 32)
  have hs0 : (0:ℝ) ≤ s := by positivity
  rw [max_eq_right (by norm_cast; push_cast; apply div_nonneg <;> linarith), min_eq_right (by
    norm_cast; push_cast; rw [div_le_one (by norm_num)]; linarith), ← EReal.coe_mul]
  congr 1
  ring

/-- The kernel cell below that position. -/
theorem v105_apply (h : ZeroWave V0) (l : Fin 4096) (s : Fin 33) :
    (res_main_v105 V0 : IVec S1x4096x33 32) (ix3 0 l s) = BitVec.ofNat 32 (63 * (17 * s + 240) / 1024) := by
  unfold res_main_v105
  pointwise
  rw [v103_apply V0 h]
  have hq : 63 * (17 * s.val + 240) / 1024 ≤ 62 := by omega
  rw [Words.fptosi_real (n := 63 * (17 * s.val + 240) / 1024) (by positivity)]
  · simp
    generalize 63 * (17 * s.val + 240) / 1024 = n at hq ⊢
    interval_cases n <;> rfl
  · rw [le_div_iff₀ (by norm_num)]
    exact_mod_cast (by omega : 63 * (17 * s.val + 240) / 1024 * 1024 ≤ 63 * (17 * s.val + 240))
  · rw [div_lt_iff₀ (by norm_num)]
    exact_mod_cast (by omega : 63 * (17 * s.val + 240) < (63 * (17 * s.val + 240) / 1024 + 1) * 1024)
  · omega

/-- The weight of the cell above: the fractional part. -/
theorem v110_apply (h : ZeroWave V0) (l : Fin 4096) (s : Fin 33) :
    (res_main_v110 V0 : FVec Ideal S1x4096x1x33 .f32) (ix4 0 l 0 s) =
      ((((63 * (17 * s.val + 240) % 1024 : ℕ) : ℝ) / 1024 : ℝ) : EReal) := by
  unfold res_main_v110
  pointwise
  rw [v103_apply V0 h, v105_apply V0 h, Words.sitofp_nat (by omega)]
  simp [-EReal.coe_sub]
  refine (EReal.coe_sub _ _).symm.trans (congrArg _ ?_)
  have := Nat.div_add_mod (63 * (17 * s.val + 240)) 1024
  have h2 : (1024:ℝ) * ((63 * (17 * s.val + 240) / 1024 : ℕ) : ℝ) + ((63 * (17 * s.val + 240) % 1024 : ℕ) : ℝ) =
    63 * (17 * s.val + 240) := by exact_mod_cast this
  linarith

end Cert.ReferenceIdeal.Value

end
-- ==== Proof.Ref.Gather.lean ====
/- The reference's two gathers, read at one result index. -/
module

public import proofs.«01_k».proof.Proof.Gen.ReferenceIdeal.Run
public import Idealize.ShloMosaic.Lib.Pointwise

@[expose] public section

set_option maxRecDepth 16384

noncomputable section

namespace Cert.ReferenceIdeal.Value

open Cert.ReferenceIdeal Cert.ReferenceIdeal.Gen Idealize.ShloMosaic

/-- The gather along the last axis of a kernel row: the index is read signed and clamped into the row. -/
theorem gather_cell_apply {α : Type} (x : S1x4096x12x64.Idx → α) (idx : IVec S4096x12x33x1 32)
    (l : Fin 4096) (g : Fin 12) (s : Fin 33) :
    Host.gather gather_S1x4096x12x64_S4096x12x33x1_S1x4096x12x33_0_3_12_01_3_3_1111 x idx (ix4 0 l g s) =
      x (ix4 0 l g ⟨min (idx (ix4 l g s 0)).toInt.toNat 63, by omega⟩) := by
  unfold Host.gather
  congr 1
  have h : ∀ c, (gather_S1x4096x12x64_S4096x12x33x1_S1x4096x12x33_0_3_12_01_3_3_1111).siIdx (ix4 0 l g s) c = (ix4 l g s 0 : S4096x12x33x1.Idx) := by
    intro c
    funext b
    fin_cases b
    · rfl
    · rfl
    · rfl
    · exact Subsingleton.elim (α := Fin 1) _ _
  funext a
  fin_cases a
  · exact Subsingleton.elim (α := Fin 1) _ _
  · exact Fin.ext (Nat.zero_add _)
  · exact Fin.ext (Nat.zero_add _)
  · refine Fin.ext ?_
    refine Eq.trans (b := min (idx ((gather_S1x4096x12x64_S4096x12x33x1_S1x4096x12x33_0_3_12_01_3_3_1111).siIdx
      (ix4 0 l g s) ⟨0, by decide⟩)).toInt.toNat 63 + 0 + 0) rfl ?_
    rw [h]; rfl

/-- The gather of whole rows of the input: batch and row are the two components of the start index. -/
theorem gather_row_apply {α : Type} (x : S1x4096x768.Idx → α) (idx : IVec S1x4096x33x2 32)
    (l : Fin 4096) (s : Fin 33) (c : Fin 768) :
    Host.gather gather_S1x4096x768_S1x4096x33x2_S1x4096x33x768_3_01_n_n_01_3_11768 x idx (ix4 0 l s c) =
      x (ix3 0 ⟨min (idx (ix4 0 l s 1)).toInt.toNat 4095, by omega⟩ c) := by
  unfold Host.gather
  congr 1
  have h : (gather_S1x4096x768_S1x4096x33x2_S1x4096x33x768_3_01_n_n_01_3_11768).siIdx (ix4 0 l s c) ⟨1, by decide⟩ =
      (ix4 0 l s 1 : S1x4096x33x2.Idx) := by
    funext b
    fin_cases b <;> rfl
  funext a
  fin_cases a
  · exact Subsingleton.elim (α := Fin 1) _ _
  · refine Fin.ext ?_
    refine Eq.trans (b := min (idx ((gather_S1x4096x768_S1x4096x33x2_S1x4096x33x768_3_01_n_n_01_3_11768).siIdx
      (ix4 0 l s c) ⟨1, by decide⟩)).toInt.toNat 4095 + 0 + 0) rfl ?_
    rw [h]; rfl
  · refine Fin.ext ?_
    refine Eq.trans (b := 0 + 0 + c.val) rfl ?_
    exact (Nat.zero_add _).trans (by rfl)

end Cert.ReferenceIdeal.Value

end
-- ==== Proof.Ref.Cells.lean ====
/- The reference's kernel cells and the words its gathers and masks are made of. -/
module

public import proofs.«01_k».proof.Proof.Ref.Wave
public import proofs.«01_k».proof.Proof.Ref.Gather
public import proofs.«01_k».proof.Proof.Spec
public import Idealize.ShloMosaic.Lib.Routing.OpsOrder

@[expose] public section

set_option maxRecDepth 16384

noncomputable section

namespace Cert.ReferenceIdeal.Value

open Cert.ReferenceIdeal Cert.ReferenceIdeal.Gen Idealize.ShloMosaic Idealize.ShloMosaic.TcCoe Idealize.SL.Sem Idealize.ShloMosaic.StableHlo

variable (V0 : Valuation τ sig (Elt Ideal))

/-- The input, by step and channel. -/
def xOf (l : Fin 4096) (c : Fin 768) : EReal := (V0 (Proc.devRef .tc main_arg0) : FVec Ideal S1x4096x768 .f32) (ix3 0 l c)
/-- The kernel projection's matrix. -/
def wkOf (a b : Fin 768) : EReal := (V0 (Proc.devRef .tc main_arg3) : FVec Ideal S768x768 .f32) (ix2 a b)
/-- The kernel projection's bias. -/
def bOf (a : Fin 768) : EReal := (V0 (Proc.devRef .tc main_arg4) : FVec Ideal S768 .f32) (ix1 a)
/-- The output projection's matrix. -/
def woOf (a b : Fin 768) : EReal := (V0 (Proc.devRef .tc main_arg5) : FVec Ideal S768x768 .f32) (ix2 a b)

/-- The kernel projection. -/
theorem v88_apply (l : Fin 4096) (c : Fin 768) :
    (res_main_v88 V0 : FVec Ideal S1x4096x768 .f32) (ix3 0 l c) = Spec.proj (xOf V0) (wkOf V0) (bOf V0) l c := by
  unfold res_main_v88 Spec.proj
  pointwise
  rfl

/-- The kernel cells: the activated projection, head by head. -/
theorem v96_apply (l : Fin 4096) (g : Fin 12) (k : Fin 64) :
    (res_main_v96 V0 : FVec Ideal S1x4096x12x64 .f32) (ix4 0 l g k) = Spec.cellAt (xOf V0) (wkOf V0) (bOf V0) l g k := by
  unfold res_main_v96 Spec.cellAt
  pointwise
  have hc : (⟨64 * g + k, by omega⟩ : Fin 768) = ⟨g * 64 + k, by omega⟩ := Fin.ext (by simp [Nat.mul_comm])
  rw [hc, ← v88_apply]
  rfl

/-- A cell number is not negative, so wrapping it around leaves it. -/
theorem wrap_cell (n : ℕ) (h : n ≤ 63) :
    Scalar.select (IntOp.cmpi .slt (BitVec.ofNat 32 n) 0#32) (IntOp.addi (BitVec.ofNat 32 n) 64#32) (BitVec.ofNat 32 n) =
      BitVec.ofNat 32 n := by
  interval_cases n <;> rfl

/-- A cell number passes the gather's range test. -/
theorem cell_in_range (n : ℕ) (h : n ≤ 63) :
    IntOp.andi (IntOp.andi (IntOp.cmpi .sge (BitVec.ofNat 32 n) 0#32) (IntOp.cmpi .sle (BitVec.ofNat 32 n) 63#32)) 1#1 =
      1#1 := by
  interval_cases n <;> rfl

/-- A cell number as the gather reads it. -/
theorem cell_toNat (n : ℕ) (h : n ≤ 63) : min (BitVec.ofNat 32 n).toInt.toNat 63 = n := by
  interval_cases n <;> rfl

/-- The index of the lower cell, as the gather reads it. -/
theorem call3_v5_apply (h : ZeroWave V0) (l : Fin 4096) (g : Fin 12) (s : Fin 33) :
    (res_main_call3_v5 V0 : IVec S4096x12x33x1 32) (ix4 l g s 0) = BitVec.ofNat 32 (Spec.cell s) := by
  unfold res_main_call3_v5 res_main_v114
  pointwise
  simp only [v105_apply V0 h]
  exact wrap_cell _ (by omega)

/-- The index of the upper cell, as the gather reads it. -/
theorem call4_v5_apply (h : ZeroWave V0) (l : Fin 4096) (g : Fin 12) (s : Fin 33) :
    (res_main_call4_v5 V0 : IVec S4096x12x33x1 32) (ix4 l g s 0) = BitVec.ofNat 32 (Spec.cell s + 1) := by
  unfold res_main_call4_v5 res_main_v116
  pointwise
  simp only [v105_apply V0 h]
  have hs : ∀ n, IntOp.addi (BitVec.ofNat 32 n) 1#32 = BitVec.ofNat 32 (n + 1) := fun n => BitVec.ofNat_add_ofNat n 1
  rw [hs]
  exact wrap_cell _ (by omega)

/-- The range mask of the sampled position, as a number. -/
theorem keep_apply (l : Fin 4096) (s : Fin 33) (p : EReal) (hp : p = (((l : ℝ) + ((s : ℝ) - 16) * (17/2) : ℝ) : EReal)) :
    (FloatOps.uitofp .f32 (IntOp.andi (BitVec.ofBool (decide (0 ≤ p)))
      (BitVec.ofBool (decide (p < Ideal.ofBits .f32 0x45800000#32)))) : Ideal .f32) = Spec.keep l s := by
  rw [hp, Words.w4096]
  have h1 : (0 : EReal) ≤ (((l : ℝ) + ((s : ℝ) - 16) * (17/2) : ℝ) : EReal) ↔ 136 ≤ Spec.tap l s := by
    rw [EReal.coe_nonneg]
    have : (0:ℝ) ≤ (l : ℝ) + ((s : ℝ) - 16) * (17/2) ↔ (272:ℝ) ≤ 2 * l + 17 * s := by constructor <;> intro h <;> linarith
    rw [this]
    have : (272:ℝ) ≤ 2 * l + 17 * s ↔ 272 ≤ 2 * l.val + 17 * s.val := by exact_mod_cast Iff.rfl
    rw [this]; unfold Spec.tap; omega
  have h2 : (((l : ℝ) + ((s : ℝ) - 16) * (17/2) : ℝ) : EReal) < ((4096 : ℝ) : EReal) ↔ Spec.tap l s < 4232 := by
    rw [EReal.coe_lt_coe_iff]
    have : (l : ℝ) + ((s : ℝ) - 16) * (17/2) < 4096 ↔ 2 * (l:ℝ) + 17 * s < 8464 := by constructor <;> intro h <;> linarith
    rw [this]
    have : 2 * (l:ℝ) + 17 * s < 8464 ↔ 2 * l.val + 17 * s.val < 8464 := by exact_mod_cast Iff.rfl
    rw [this]; unfold Spec.tap; omega
  simp only [h1, h2]
  unfold Spec.keep Spec.Inside
  refine Eq.trans (b := (((IntOp.andi (BitVec.ofBool (decide (136 ≤ Spec.tap l s)))
    (BitVec.ofBool (decide (Spec.tap l s < 4232)))).toNat : ℝ) : EReal)) rfl ?_
  by_cases a : 136 ≤ Spec.tap l s <;> by_cases b : Spec.tap l s < 4232 <;> simp [a, b, IntOp.andi]

theorem lower_eq (s : ℕ) : (1 : EReal) - Spec.upper s = Spec.lower s := by
  unfold Spec.lower Spec.upper
  rw [EReal.coe_sub]; rfl

end Cert.ReferenceIdeal.Value

end
-- ==== Proof.Ref.Masked.lean ====
/- The reference's masked interpolation of the kernel cells at the taps. -/
module

public import proofs.«01_k».proof.Proof.Ref.Cells

@[expose] public section

set_option maxRecDepth 16384

noncomputable section

namespace Cert.ReferenceIdeal.Value

open Cert.ReferenceIdeal Cert.ReferenceIdeal.Gen Idealize.ShloMosaic Idealize.ShloMosaic.TcCoe Idealize.SL.Sem Idealize.ShloMosaic.StableHlo

variable (V0 : Valuation τ sig (Elt Ideal))

/-- The masked interpolation. -/
theorem v127_apply (h : ZeroWave V0) (l : Fin 4096) (g : Fin 12) (s : Fin 33) :
    (res_main_v127 V0 : FVec Ideal S1x4096x12x33 .f32) (ix4 0 l g s) = Spec.masked (xOf V0) (wkOf V0) (bOf V0) l g s := by
  unfold res_main_v127
  clean_types
  pointwise
  simp only [gather_cell_apply]
  have hc := Spec.cell_le s.2
  rw [keep_apply l s _ (v50_apply V0 h l s)]
  simp only [Finset.univ_unique, Finset.fold_singleton, Fin.default_eq_zero]
  simp only [Fin.isValue, call3_v5_apply V0 h, call4_v5_apply V0 h, v96_apply, v110_apply V0 h]
  rw [cell_in_range _ (by omega), cell_in_range _ (by omega)]
  simp only [cell_toNat (Spec.cell s) (by omega), cell_toNat (Spec.cell s + 1) (by omega)]
  unfold Spec.masked
  rw [← lower_eq]
  rfl

end Cert.ReferenceIdeal.Value

end
-- ==== Proof.Ref.Out.lean ====
/- The reference's output, read as the plain sums. -/
module

public import proofs.«01_k».proof.Proof.Ref.Masked

@[expose] public section

set_option maxRecDepth 16384

noncomputable section

namespace Cert.ReferenceIdeal.Value

open Cert.ReferenceIdeal Cert.ReferenceIdeal.Gen Idealize.ShloMosaic Idealize.ShloMosaic.TcCoe Idealize.SL.Sem Idealize.ShloMosaic.StableHlo

variable (V0 : Valuation τ sig (Elt Ideal))

/-- The row an inside sample is read at. -/
theorem v57_apply (h : ZeroWave V0) (l : Fin 4096) (s : Fin 33) (hin : Spec.Inside l s) :
    (res_main_v57 V0 : IVec S1x4096x33 32) (ix3 0 l s) = BitVec.ofNat 32 (Spec.tap l s - 136) := by
  unfold res_main_v57
  pointwise
  rw [v50_apply V0 h]
  obtain ⟨n, hn⟩ : ∃ n, n = Spec.tap l s - 136 := ⟨_, rfl⟩
  rw [← hn]
  unfold Spec.Inside at hin
  have ht : Spec.tap l s = n + 136 := by omega
  have e1 : 2 * (n + 136) ≤ 2 * l.val + 17 * s.val := by unfold Spec.tap at ht; omega
  have e2 : 2 * l.val + 17 * s.val < 2 * (n + 136) + 2 := by unfold Spec.tap at ht; omega
  have r1 : 2 * ((n:ℝ) + 136) ≤ 2 * l + 17 * s := by exact_mod_cast e1
  have r2 : 2 * (l:ℝ) + 17 * s < 2 * (n + 136) + 2 := by exact_mod_cast e2
  have hn0 : (0:ℝ) ≤ n := by positivity
  rw [Words.fptosi_real (n := n) (by linarith) (by linarith) (by linarith) (by omega)]
  have hn1 : n ≤ 4095 := by omega
  have hw : (BitVec.ofNat 32 n).toInt = (n : ℤ) := by
    rw [BitVec.toInt_ofNat', Int.bmod_eq_of_le (by omega) (by omega)]
  have h0 : ¬ (BitVec.ofNat 32 n).toInt < (0#32 : BitVec 32).toInt := by rw [hw]; simp
  have h1 : ¬ (4095#32 : BitVec 32).toInt < (BitVec.ofNat 32 n).toInt := by
    rw [hw, show (4095#32 : BitVec 32).toInt = 4095 from rfl]; omega
  have hmax : IntOp.maxsi 0#32 (BitVec.ofNat 32 n) = BitVec.ofNat 32 n := by
    unfold IntOp.maxsi
    rw [if_neg]
    simpa [BitVec.slt] using h0
  have hmin : IntOp.minsi 4095#32 (BitVec.ofNat 32 n) = BitVec.ofNat 32 n := by
    unfold IntOp.minsi
    rw [if_neg]
    simpa [BitVec.slt] using h1
  exact (congrArg (IntOp.minsi 4095#32) hmax).trans hmin

/-- A row number is not negative, so wrapping it around leaves it; the gather reads it as it is. -/
theorem row_toNat (n : ℕ) (h : n ≤ 4095) :
    min (Scalar.select (IntOp.cmpi .slt (BitVec.ofNat 32 n) 0#32) (IntOp.addi (BitVec.ofNat 32 n) 4096#32)
      (BitVec.ofNat 32 n)).toInt.toNat 4095 = n := by
  have hw : (BitVec.ofNat 32 n).toInt = (n : ℤ) := by
    rw [BitVec.toInt_ofNat', Int.bmod_eq_of_le (by omega) (by omega)]
  have hs : IntOp.cmpi .slt (BitVec.ofNat 32 n) 0#32 = 0#1 := by
    simp [IntOp.cmpi, BitVec.slt, hw]
    exact (decide_eq_false (by omega) : decide ((n : ℤ) < 0) = false) ▸ rfl
  rw [hs]
  show min (BitVec.ofNat 32 n).toInt.toNat 4095 = n
  rw [hw]; omega

/-- No sample outside the sequence meets a total of zero. -/
def Divides : Prop := ∀ (l : Fin 4096) (g : Fin 12) (s : Fin 33),
  Spec.Inside l s ∨ Spec.total (xOf V0) (wkOf V0) (bOf V0) l g ≠ 0

/-- A tap's term: an outside sample has weight zero, an inside one is read at its own row. -/
theorem term_eq (h : ZeroWave V0) (hd : Divides V0) (l : Fin 4096) (g : Fin 12) (s : Fin 33) (c : Fin 768) :
    xOf V0 ⟨min (Scalar.select
        (IntOp.cmpi .slt ((res_main_v57 V0 : IVec S1x4096x33 32) (ix3 0 l s)) 0#32)
        (IntOp.addi ((res_main_v57 V0 : IVec S1x4096x33 32) (ix3 0 l s)) 4096#32)
        ((res_main_v57 V0 : IVec S1x4096x33 32) (ix3 0 l s))).toInt.toNat 4095, by omega⟩ c *
      Spec.weight (xOf V0) (wkOf V0) (bOf V0) l g s =
    Spec.weight (xOf V0) (wkOf V0) (bOf V0) l g s * Spec.padded (xOf V0) (Spec.tap l s) c := by
  by_cases hin : Spec.Inside l s
  · rw [mul_comm]
    congr 1
    unfold Spec.padded
    rw [dif_pos (show 136 ≤ Spec.tap l s ∧ Spec.tap l s < 4232 from hin)]
    simp only [v57_apply V0 h l s hin, row_toNat (Spec.tap l s - 136) (by unfold Spec.Inside at hin; omega)]
  · have hw : Spec.weight (xOf V0) (wkOf V0) (bOf V0) l g s = 0 := by
      unfold Spec.weight Spec.masked Spec.keep
      rw [if_neg hin, mul_zero]
      exact Ideal.zero_div ((hd l g s).resolve_left hin)
    rw [hw, zero_mul, mul_zero]

/-- The output projection. -/
theorem v137_apply (h : ZeroWave V0) (hd : Divides V0) (l : Fin 4096) (c : Fin 768) :
    (res_main_v137 V0 : FVec Ideal S1x4096x768 .f32) (ix3 0 l c) =
      ∑ k, Spec.conv (xOf V0) (wkOf V0) (bOf V0) l k * woOf V0 c k := by
  unfold res_main_v137
  clean_types
  pointwise
  simp only [gather_row_apply]
  pointwise
  refine Finset.sum_congr rfl fun k _ => ?_
  refine congrArg₂ (· * ·) (Finset.sum_congr rfl fun s _ => ?_) rfl
  refine Eq.trans ?_ (term_eq V0 h hd l (Spec.head k) s k)
  refine congrArg₂ (· * ·) rfl ?_
  simp only [v127_apply V0 h]
  rfl

end Cert.ReferenceIdeal.Value

end
-- ==== Proof.Ref.Result.lean ====
/- The reference's result, entry by entry. -/
module

public import proofs.«01_k».proof.Proof.Ref.Out

@[expose] public section

set_option maxRecDepth 16384

noncomputable section

namespace Cert.ReferenceIdeal.Value

open Cert.ReferenceIdeal Cert.ReferenceIdeal.Gen Idealize.ShloMosaic Idealize.ShloMosaic.TcCoe Idealize.SL.Sem Idealize.ShloMosaic.StableHlo

/-- The result array, from the output projection. -/
def activated (y : FVec Ideal S1x4096x768 .f32) : FVec Ideal S4096x768 .f32 :=
  shapeCast _ (mulf y (Host.divf (broadcastInDim S1x4096x768 ![] bcast_S_S1x4096x768 (constant S_ .f32 0x3F800000#32))
    (addf (broadcastInDim S1x4096x768 ![] bcast_S_S1x4096x768 (constant S_ .f32 0x3F800000#32)) (Host.exp (Host.negf y)))))
    shapeCasts_S1x4096x768_S4096x768

theorem activated_apply (y : FVec Ideal S1x4096x768 .f32) (l : Fin 4096) (a : Fin 768) :
    activated y (ix2 l a) = Spec.silu (y (ix3 0 l a)) := by
  unfold activated Spec.silu
  pointwise

variable (V0 : Valuation τ sig (Elt Ideal))

/-- Under the precondition the reference's result is the plain sums. -/
theorem result_eq (h : ZeroWave V0) (hd : Divides V0) (i : S4096x768.Idx) :
    activated (res_main_v137 V0) i = Spec.out (xOf V0) (wkOf V0) (bOf V0) (woOf V0) (i 0) (i 1) := by
  have hi : i = (ix2 (i 0) (i 1) : S4096x768.Idx) := by
    funext a; fin_cases a <;> rfl
  refine (congrArg (activated (res_main_v137 V0)) hi).trans ((activated_apply _ (i 0) (i 1)).trans ?_)
  exact congrArg Spec.silu (v137_apply V0 h hd (i 0) (i 1))

end Cert.ReferenceIdeal.Value

end
-- ==== Proof.Wave.Reads.lean ====
/- What the precondition says, over the reference's own intermediate values. -/
module

public import proofs.«01_k».proof.Proof.Ref.Out
public import proofs.«01_k».proof.Proof.Gen.Pre_plain_wave

@[expose] public section

set_option maxRecDepth 16384

noncomputable section

namespace Cert.ReferenceIdeal.Value

open Cert.ReferenceIdeal Cert.ReferenceIdeal.Gen Idealize.ShloMosaic Idealize.ShloMosaic.TcCoe Idealize.SL.Sem Idealize.ShloMosaic.StableHlo

variable (V0 : Valuation τ sig (Elt Ideal))

/-- Which samples are inside. -/
def validOf : IVec S1x4096x33 1 :=
  andi (cmpf (F := Ideal) .oge (res_main_v50 V0 : FVec Ideal S1x4096x33 .f32) (broadcastInDim S1x4096x33 ![] bcast_S_S1x4096x33 (constant S_ .f32 0x00000000#32)))
    (cmpf (F := Ideal) .olt (res_main_v50 V0 : FVec Ideal S1x4096x33 .f32) (broadcastInDim S1x4096x33 ![] bcast_S_S1x4096x33 (constant S_ .f32 0x45800000#32)))

/-- What the weights are divided by. -/
def totalOf : FVec Ideal S1x4096x12x1 .f32 :=
  addf (broadcastInDim S1x4096x12x1 ![0, 1, 2] bcast_S1x4096x12_S1x4096x12x1_0_1_2
      (Host.reduceAdd (res_main_v127 V0 : FVec Ideal S1x4096x12x33 .f32) (constant S_ .f32 0x00000000#32) reducesTo_S1x4096x12x33_S1x4096x12_d3 h_S_))
    (broadcastInDim S1x4096x12x1 ![] bcast_S_S1x4096x12x1 (constant S_ .f32 0x322BCC77#32))

set_option maxHeartbeats 2000000 in
/-- The precondition compares the reference's wave projection, valid samples and totals. -/
theorem pre_eq :
    Cert.Pre_plain_wave.fn (F := Ideal) (V0 (Proc.devRef .tc main_arg0)) (V0 (Proc.devRef .tc main_arg1)) (V0 (Proc.devRef .tc main_arg2))
        (V0 (Proc.devRef .tc main_arg3)) (V0 (Proc.devRef .tc main_arg4)) (V0 (Proc.devRef .tc main_arg5)) =
      Cert.Pre_plain_wave.fn_part6 (F := Ideal) (V0 (Proc.devRef .tc main_arg1)) (V0 (Proc.devRef .tc main_arg2)) (validOf V0) (totalOf V0)
        (broadcastInDim Cert.Pre_plain_wave.S24x768 ![] Cert.Pre_plain_wave.Facts.bcast_S_S24x768 (constant Cert.Pre_plain_wave.S_ .f32 0x00000000#32)) :=
  rfl

end Cert.ReferenceIdeal.Value

end
-- ==== Proof.Wave.Facts.lean ====
/- What follows from the precondition: the wave projection is zero, and no outside sample is divided by zero. -/
module

public import proofs.«01_k».proof.Proof.Wave.Reads

@[expose] public section

set_option maxRecDepth 16384

noncomputable section

namespace Cert.ReferenceIdeal.Value

open Cert.ReferenceIdeal Cert.ReferenceIdeal.Gen Idealize.ShloMosaic Idealize.ShloMosaic.TcCoe Idealize.SL.Sem Idealize.ShloMosaic.StableHlo

variable (V0 : Valuation τ sig (Elt Ideal))

/-- The three arrays of the precondition, all true. -/
def Holds : Prop :=
  let p := Cert.Pre_plain_wave.fn (F := Ideal) (V0 (Proc.devRef .tc main_arg0)) (V0 (Proc.devRef .tc main_arg1)) (V0 (Proc.devRef .tc main_arg2))
    (V0 (Proc.devRef .tc main_arg3)) (V0 (Proc.devRef .tc main_arg4)) (V0 (Proc.devRef .tc main_arg5))
  p.1 = (fun _ => 1#1) ∧ p.2.1 = (fun _ => 1#1) ∧ p.2.2 = (fun _ => 1#1)

theorem ofBool_one {p : Prop} [Decidable p] (h : BitVec.ofBool (decide p) = 1#1) : p := by
  by_contra hn
  rw [decide_eq_false hn] at h
  exact absurd h (by decide)

/-- A one-bit word that reads as zero is zero. -/
theorem word_of_zero {w : BitVec 1} (h : (FloatOps.uitofp .f32 w : Ideal .f32) = (0 : EReal)) : w = 0#1 := by
  have h' : ((w.toNat : ℝ) : EReal) = 0 := h
  have h2 : w.toNat = 0 := by exact_mod_cast h'
  exact BitVec.eq_of_toNat_eq h2

theorem zeroWave (h : Holds V0) : ZeroWave V0 := by
  unfold Holds at h
  rw [pre_eq] at h
  refine ⟨fun a b => ?_, fun a => ?_⟩
  · have h1 := congrFun h.1 (ix2 a b)
    unfold Cert.Pre_plain_wave.fn_part6 at h1
    pointwise at h1
    exact ofBool_one h1
  · have h1 := congrFun h.2.1 (ix1 a)
    unfold Cert.Pre_plain_wave.fn_part6 at h1
    pointwise at h1
    exact ofBool_one h1

theorem totalOf_apply (hz : ZeroWave V0) (l : Fin 4096) (g : Fin 12) :
    totalOf V0 (ix4 0 l g 0) = Spec.total (xOf V0) (wkOf V0) (bOf V0) l g := by
  unfold totalOf
  clean_types
  pointwise
  simp only [v127_apply V0 hz]
  rfl

theorem divides (h : Holds V0) : Divides V0 := by
  have hz := zeroWave V0 h
  unfold Holds at h
  rw [pre_eq] at h
  intro l g s
  have h1 := congrFun h.2.2 (ix4 0 l g s)
  unfold Cert.Pre_plain_wave.fn_part6 validOf at h1
  pointwise at h1
  by_contra hn
  rw [not_or, not_not] at hn
  have hk := keep_apply l s _ (v50_apply V0 hz l s)
  rw [Spec.keep, if_neg hn.1] at hk
  rw [totalOf_apply V0 hz, hn.2, word_of_zero hk] at h1
  exact absurd h1 (by simp [IntOp.ori])

end Cert.ReferenceIdeal.Value

end
-- ==== Proof.Equal.lean ====
/- The kernel and the reference end with equal results, under the precondition. -/
module

public import proofs.«01_k».proof.Defs
public import proofs.«01_k».proof.Proof.Body.Final
public import proofs.«01_k».proof.Proof.Ref.Result
public import proofs.«01_k».proof.Proof.Wave.Facts
public import Idealize.ShloMosaic.Lib.Claim
public import Idealize.ShloMosaic.Lib.Quiescent

@[expose] public section

set_option maxRecDepth 16384

noncomputable section

namespace Cert.Proof

open Idealize.ShloMosaic Idealize.ShloMosaic.StableHlo Idealize.SL.Sem

/-- The reference runs, keeps its arguments and ends with every semaphore at zero. -/
theorem reference_frame : Cert.quiescent_ReferenceIdeal := fun m ρ _ =>
  θ_run_mono (Cert.ReferenceIdeal.Value.run m ρ) fun _ h => ⟨fun c => (h c).2, sem_eq_zero_of_no_sems (by decide) _⟩

section

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- The two programs start with the same arguments. -/
def Agree : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)

/-- The precondition, over the reference's arguments. -/
theorem holds_of (hpre : Cert.Pre_KernelIdeal_plain_wave m) (h : Agree m m' c) :
    Cert.ReferenceIdeal.Value.Holds (launchContents m' c) := by
  obtain ⟨h0, h1, h2, h3, h4, h5⟩ := h
  have hp := hpre c
  rw [← h0, ← h1, ← h2, ← h3, ← h4, ← h5] at hp
  exact hp

/-- The two results are the same array. -/
theorem results_eq (hpre : Cert.Pre_KernelIdeal_plain_wave m) (h : Agree m m' c) :
    Cert.ReferenceIdeal.Value.activated (Cert.ReferenceIdeal.Value.res_main_v137 (launchContents m' c)) =
      Cert.KernelIdeal.Body.result m c := by
  have hh := holds_of m m' c hpre h
  obtain ⟨h0, _, _, h3, h4, h5⟩ := h
  funext i
  refine (Cert.ReferenceIdeal.Value.result_eq _ (Cert.ReferenceIdeal.Value.zeroWave _ hh) (Cert.ReferenceIdeal.Value.divides _ hh) i).trans ?_
  have ex : Cert.ReferenceIdeal.Value.xOf (launchContents m' c) = Cert.KernelIdeal.HostPart.xOf m c :=
    funext fun l => funext fun k => congrFun h0 (ix3 0 l k)
  have ek : Cert.ReferenceIdeal.Value.wkOf (launchContents m' c) = Cert.KernelIdeal.HostPart.wkOf m c :=
    funext fun a => funext fun b => congrFun h3 (ix2 a b)
  have eb : Cert.ReferenceIdeal.Value.bOf (launchContents m' c) = Cert.KernelIdeal.HostPart.bOf m c :=
    funext fun a => congrFun h4 (ix1 a)
  have eo : Cert.ReferenceIdeal.Value.woOf (launchContents m' c) = Cert.KernelIdeal.HostPart.woOf m c :=
    funext fun a => funext fun b => congrFun h5 (ix2 a b)
  rw [ex, ek, eb, eo]
  rfl

end

/-- The kernel and the reference run and end with equal results. -/
theorem equal : Cert.algebraic_KernelIdeal_ReferenceIdeal_pre_plain_wave := fun m g m' g' hpre hagree =>
  ⟨fun c => Cert.KernelIdeal.Body.result m c,
    θ_run_mono (Cert.KernelIdeal.Value.run_blocks m g) fun _ h c => ⟨(h c).1.trans (Cert.KernelIdeal.Body.final m c), (h c).2⟩,
    θ_run_mono (Cert.ReferenceIdeal.Value.run m' g') fun _ h c => ⟨(h c).1.trans (results_eq m m' c hpre (hagree c)), (h c).2⟩⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_plain_wave
public import proofs.«01_k».proof.Proof.Gen.KernelIdeal.Value
public import proofs.«01_k».proof.Proof.Gen.ReferenceIdeal.Run
public import proofs.«01_k».proof.Proof.Equal
public import Idealize.ShloMosaic.Adequacy
public import Idealize.ShloMosaic.Init

@[expose] public section

noncomputable section

namespace Cert.Proof

open Idealize.ShloMosaic Idealize.SL.Sem Cert.Kernel

/-- Everything that the certificate claims. -/
theorem claim : Cert.Claim := ⟨Cert.Kernel.Gen.facts, Cert.KernelIdeal.Gen.facts, Cert.ReferenceIdeal.Gen.facts, Cert.Pre_plain_wave.Gen.facts,
  fun m ρ _ => Cert.Kernel.Gen.frame m ρ,
  fun m ρ _ => Cert.KernelIdeal.Gen.frame m ρ,
  fun m ρ _ => Cert.KernelIdeal.Gen.frame m ρ,
  fun m ρ _ => reference_frame m ρ trivial,
  fun m ρ _ => reference_frame m ρ trivial,
  trivial, equal⟩

end Cert.Proof

end
